-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)) (v3 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_v9_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v17_1) = v1 c
          ∧ r.2.mem ((c.tc : Thread Cert.ReferenceIdeal.nD Cert.ReferenceIdeal.τ).loc Cert.ReferenceIdeal.main_v17_2) = v2 c
          ∧ r.2.mem ((c.tc : Thread Cert.ReferenceIdeal.nD Cert.ReferenceIdeal.τ).loc Cert.ReferenceIdeal.main_v17_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x3584 : Shape := ⟨3, ![6, 256, 3584]⟩
abbrev S6x256 : Shape := ⟨2, ![6, 256]⟩
abbrev S6x256x18944 : Shape := ⟨3, ![6, 256, 18944]⟩
abbrev S6x256x2368 : Shape := ⟨3, ![6, 256, 2368]⟩
abbrev S3584x18944 : Shape := ⟨2, ![3584, 18944]⟩
abbrev S3584 : Shape := ⟨1, ![3584]⟩
abbrev S18944x3584 : Shape := ⟨2, ![18944, 3584]⟩
abbrev S1536x3584 : Shape := ⟨2, ![1536, 3584]⟩
abbrev S1536x1 : Shape := ⟨2, ![1536, 1]⟩
abbrev S1536x18944 : Shape := ⟨2, ![1536, 18944]⟩
abbrev S1x1536 : Shape := ⟨2, ![1, 1536]⟩
abbrev S1536x2368 : Shape := ⟨2, ![1536, 2368]⟩
abbrev S1x3584 : Shape := ⟨2, ![1, 3584]⟩
abbrev S1536x128 : Shape := ⟨2, ![1536, 128]⟩
abbrev S512x3584 : Shape := ⟨2, ![512, 3584]⟩
abbrev S1536x512 : Shape := ⟨2, ![1536, 512]⟩
abbrev S384x128 : Shape := ⟨2, ![384, 128]⟩
abbrev S384x128x1 : Shape := ⟨3, ![384, 128, 1]⟩
abbrev S1536 : Shape := ⟨1, ![1536]⟩
abbrev S1536x256 : Shape := ⟨2, ![1536, 256]⟩
abbrev S512x1536 : Shape := ⟨2, ![512, 1536]⟩
abbrev S768x18944 : Shape := ⟨2, ![768, 18944]⟩
abbrev S256x18944 : Shape := ⟨2, ![256, 18944]⟩
abbrev S1x256 : Shape := ⟨2, ![1, 256]⟩
abbrev S768x1 : Shape := ⟨2, ![768, 1]⟩
abbrev S768x256 : Shape := ⟨2, ![768, 256]⟩
abbrev S768 : Shape := ⟨1, ![768]⟩

abbrev nBuf : Space → Nat
  | .hbm => 22
  | .vmem => 38
  | .smem => 0
  | _ => 0

abbrev bufTy : (tb : Table) → Fin (tcTables nBuf tb) → BufTy
  | .hbm, ⟨0, _⟩ => ⟨S6x256x3584, .fp8e5m2⟩
  | .hbm, ⟨1, _⟩ => ⟨S6x256, .f32⟩
  | .hbm, ⟨2, _⟩ => ⟨S6x256x18944, .fp8e4m3⟩
  | .hbm, ⟨3, _⟩ => ⟨S6x256, .f32⟩
  | .hbm, ⟨4, _⟩ => ⟨S6x256x2368, .i8⟩
  | .hbm, ⟨5, _⟩ => ⟨S3584x18944, .fp8e4m3⟩
  | .hbm, ⟨6, _⟩ => ⟨S3584, .f32⟩
  | .hbm, ⟨7, _⟩ => ⟨S18944x3584, .fp8e4m3⟩
  | .hbm, ⟨8, _⟩ => ⟨S3584, .f32⟩
  | .hbm, ⟨9, _⟩ => ⟨S1536x3584, .fp8e5m2⟩
  | .hbm, ⟨10, _⟩ => ⟨S1536x1, .f32⟩
  | .hbm, ⟨11, _⟩ => ⟨S1536x18944, .fp8e4m3⟩
  | .hbm, ⟨12, _⟩ => ⟨S1x1536, .f32⟩
  | .hbm, ⟨13, _⟩ => ⟨S1536x2368, .i8⟩
  | .hbm, ⟨14, _⟩ => ⟨S1x3584, .f32⟩
  | .hbm, ⟨15, _⟩ => ⟨S1536x18944, .f32⟩
  | .hbm, ⟨16, _⟩ => ⟨S1536x1, .f32⟩
  | .hbm, ⟨17, _⟩ => ⟨S18944x3584, .f32⟩
  | .hbm, ⟨18, _⟩ => ⟨S1536x18944, .fp8e5m2⟩
  | .hbm, ⟨19, _⟩ => ⟨S1x3584, .f32⟩
  | .hbm, ⟨20, _⟩ => ⟨S1536x3584, .bf16⟩
  | .hbm, ⟨21, _⟩ => ⟨S1536x1, .f32⟩
  | .local _ .vmem, ⟨0, _⟩ => ⟨S1536x3584, .fp8e5m2⟩
  | .local _ .vmem, ⟨1, _⟩ => ⟨S1536x1, .f32⟩
  | .local _ .vmem, ⟨2, _⟩ => ⟨S1536x128, .i8⟩
  | .local _ .vmem, ⟨3, _⟩ => ⟨S1536x128, .i8⟩
  | .local _ .vmem, ⟨4, _⟩ => ⟨S512x3584, .fp8e4m3⟩
  | .local _ .vmem, ⟨5, _⟩ => ⟨S512x3584, .fp8e4m3⟩
  | .local _ .vmem, ⟨6, _⟩ => ⟨S1x3584, .f32⟩
  | .local _ .vmem, ⟨7, _⟩ => ⟨S1536x512, .f32⟩
  | .local _ .vmem, ⟨8, _⟩ => ⟨S1536x512, .f32⟩
  | .local _ .vmem, ⟨9, _⟩ => ⟨S1536x1, .f32⟩
  | .local _ .vmem, ⟨10, _⟩ => ⟨S1536x3584, .bf16⟩
  | .local _ .vmem, ⟨11, _⟩ => ⟨S1536x128, .f32⟩
  | .local _ .vmem, ⟨12, _⟩ => ⟨S1536x512, .fp8e4m3⟩
  | .local _ .vmem, ⟨13, _⟩ => ⟨S1536x512, .fp8e4m3⟩
  | .local _ .vmem, ⟨14, _⟩ => ⟨S1x1536, .f32⟩
  | .local _ .vmem, ⟨15, _⟩ => ⟨S1536x3584, .fp8e5m2⟩
  | .local _ .vmem, ⟨16, _⟩ => ⟨S1536x1, .f32⟩
  | .local _ .vmem, ⟨17, _⟩ => ⟨S1536x512, .f32⟩
  | .local _ .vmem, ⟨18, _⟩ => ⟨S1536x512, .f32⟩
  | .local _ .vmem, ⟨19, _⟩ => ⟨S1536x1, .f32⟩
  | .local _ .vmem, ⟨20, _⟩ => ⟨S512x3584, .f32⟩
  | .local _ .vmem, ⟨21, _⟩ => ⟨S512x3584, .f32⟩
  | .local _ .vmem, ⟨22, _⟩ => ⟨S1536x512, .fp8e5m2⟩
  | .local _ .vmem, ⟨23, _⟩ => ⟨S1536x512, .fp8e5m2⟩
  | .local _ .vmem, ⟨24, _⟩ => ⟨S1536x3584, .bf16⟩
  | .local _ .vmem, ⟨25, _⟩ => ⟨S1536x1, .f32⟩
  | .local _ .vmem, ⟨26, _⟩ => ⟨S768x18944, .fp8e5m2⟩
  | .local _ .vmem, ⟨27, _⟩ => ⟨S768x18944, .fp8e5m2⟩
  | .local _ .vmem, ⟨28, _⟩ => ⟨S256x18944, .fp8e4m3⟩
  | .local _ .vmem, ⟨29, _⟩ => ⟨S256x18944, .fp8e4m3⟩
  | .local _ .vmem, ⟨30, _⟩ => ⟨S1x256, .f32⟩
  | .local _ .vmem, ⟨31, _⟩ => ⟨S1x256, .f32⟩
  | .local _ .vmem, ⟨32, _⟩ => ⟨S768x1, .f32⟩
  | .local _ .vmem, ⟨33, _⟩ => ⟨S768x1, .f32⟩
  | .local _ .vmem, ⟨34, _⟩ => ⟨S768x256, .bf16⟩
  | .local _ .vmem, ⟨35, _⟩ => ⟨S768x256, .bf16⟩
  | .local _ .vmem, ⟨36, _⟩ => ⟨S768x1, .f32⟩
  | .local _ .vmem, ⟨37, _⟩ => ⟨S768x1, .f32⟩
  | _, _ => ⟨S6x256x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c36_i32 : BitVec 32 := 36#32
  let v147 : BitVec 1 := Scalar.cmpi .eq arg0 c36_i32
  let v148 : BitVec 32 := Scalar.extui v147
  let c0_i32_48 : BitVec 32 := 0#32
  let v149 : BitVec 1 := Scalar.cmpi .ne v148 c0_i32_48
  v149

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x3584 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1536x512 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x3584 .fp8e5m2 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1536x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1536x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x3584 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1536x512 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 14], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S768x18944 .fp8e5m2 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x18944 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S768x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S768x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S768x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S6x256x3584 : Shape := ⟨3, ![6, 256, 3584]⟩
abbrev S6x256 : Shape := ⟨2, ![6, 256]⟩
abbrev S6x256x18944 : Shape := ⟨3, ![6, 256, 18944]⟩
abbrev S6x256x2368 : Shape := ⟨3, ![6, 256, 2368]⟩
abbrev S3584x18944 : Shape := ⟨2, ![3584, 18944]⟩
abbrev S3584 : Shape := ⟨1, ![3584]⟩
abbrev S18944x3584 : Shape := ⟨2, ![18944, 3584]⟩
abbrev S6x256x2368x1 : Shape := ⟨4, ![6, 256, 2368, 1]⟩
abbrev S8 : Shape := ⟨1, ![8]⟩
abbrev S1x1x1x8 : Shape := ⟨4, ![1, 1, 1, 8]⟩
abbrev S6x256x2368x8 : Shape := ⟨4, ![6, 256, 2368, 8]⟩
abbrev S_ : Shape := ⟨0, ![]⟩
abbrev S1536x3584 : Shape := ⟨2, ![1536, 3584]⟩
abbrev S1536x1 : Shape := ⟨2, ![1536, 1]⟩
abbrev S1536x18944 : Shape := ⟨2, ![1536, 18944]⟩
abbrev S1x3584 : Shape := ⟨2, ![1, 3584]⟩
abbrev S1536 : Shape := ⟨1, ![1536]⟩

abbrev nBuf : Space → Nat
  | .hbm => 31
  | .vmem => 13
  | .smem => 0
  | _ => 0

abbrev bufTy : (tb : Table) → Fin (tcTables nBuf tb) → BufTy
  | .hbm, ⟨0, _⟩ => ⟨S6x256x3584, .fp8e5m2⟩
  | .hbm, ⟨1, _⟩ => ⟨S6x256, .f32⟩
  | .hbm, ⟨2, _⟩ => ⟨S6x256x18944, .fp8e4m3⟩
  | .hbm, ⟨3, _⟩ => ⟨S6x256, .f32⟩
  | .hbm, ⟨4, _⟩ => ⟨S6x256x2368, .i8⟩
  | .hbm, ⟨5, _⟩ => ⟨S3584x18944, .fp8e4m3⟩
  | .hbm, ⟨6, _⟩ => ⟨S3584, .f32⟩
  | .hbm, ⟨7, _⟩ => ⟨S18944x3584, .fp8e4m3⟩
  | .hbm, ⟨8, _⟩ => ⟨S3584, .f32⟩
  | .hbm, ⟨9, _⟩ => ⟨S6x256x2368, .i32⟩
  | .hbm, ⟨10, _⟩ => ⟨S6x256x2368x1, .i32⟩
  | .hbm, ⟨11, _⟩ => ⟨S8, .i32⟩
  | .hbm, ⟨12, _⟩ => ⟨S1x1x1x8, .i32⟩
  | .hbm, ⟨13, _⟩ => ⟨S6x256x2368x8, .i32⟩
  | .hbm, ⟨14, _⟩ => ⟨S6x256x2368x8, .i32⟩
  | .hbm, ⟨15, _⟩ => ⟨S6x256x2368x8, .i32⟩
  | .hbm, ⟨16, _⟩ => ⟨S_, .i32⟩
  | .hbm, ⟨17, _⟩ => ⟨S6x256x2368x8, .i32⟩
  | .hbm, ⟨18, _⟩ => ⟨S6x256x2368x8, .i32⟩
  | .hbm, ⟨19, _⟩ => ⟨S6x256x18944, .i32⟩
  | .hbm, ⟨20, _⟩ => ⟨S1536x3584, .fp8e5m2⟩
  | .hbm, ⟨21, _⟩ => ⟨S1536x1, .f32⟩
  | .hbm, ⟨22, _⟩ => ⟨S1536x18944, .fp8e4m3⟩
  | .hbm, ⟨23, _⟩ => ⟨S1536x1, .f32⟩
  | .hbm, ⟨24, _⟩ => ⟨S1536x18944, .i32⟩
  | .hbm, ⟨25, _⟩ => ⟨S1x3584, .f32⟩
  | .hbm, ⟨26, _⟩ => ⟨S1x3584, .f32⟩
  | .hbm, ⟨27, _⟩ => ⟨S1536x3584, .bf16⟩
  | .hbm, ⟨28, _⟩ => ⟨S18944x3584, .f32⟩
  | .hbm, ⟨29, _⟩ => ⟨S1536x18944, .fp8e5m2⟩
  | .hbm, ⟨30, _⟩ => ⟨S1536x1, .f32⟩
  | .local _ .vmem, ⟨0, _⟩ => ⟨S1536x3584, .fp8e5m2⟩
  | .local _ .vmem, ⟨1, _⟩ => ⟨S1536x1, .f32⟩
  | .local _ .vmem, ⟨2, _⟩ => ⟨S1536x18944, .fp8e4m3⟩
  | .local _ .vmem, ⟨3, _⟩ => ⟨S1536x1, .f32⟩
  | .local _ .vmem, ⟨4, _⟩ => ⟨S1536x18944, .i32⟩
  | .local _ .vmem, ⟨5, _⟩ => ⟨S3584x18944, .fp8e4m3⟩
  | .local _ .vmem, ⟨6, _⟩ => ⟨S1x3584, .f32⟩
  | .local _ .vmem, ⟨7, _⟩ => ⟨S18944x3584, .fp8e4m3⟩
  | .local _ .vmem, ⟨8, _⟩ => ⟨S1x3584, .f32⟩
  | .local _ .vmem, ⟨9, _⟩ => ⟨S1536x3584, .bf16⟩
  | .local _ .vmem, ⟨10, _⟩ => ⟨S18944x3584, .f32⟩
  | .local _ .vmem, ⟨11, _⟩ => ⟨S1536x18944, .fp8e5m2⟩
  | .local _ .vmem, ⟨12, _⟩ => ⟨S1536x1, .f32⟩
  | _, _ => ⟨S6x256x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1536x3584 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x18944 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18944x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18944x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x18944 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Dx.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.WordCmp
public import Idealize.ShloMosaic.Lib.Pipeline.FrameBody
public import Idealize.ShloMosaic.Lib.Pipeline.Value

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two zero offsets, as the constant function. -/
theorem off2 : (![0, 0] : Fin 2 → Nat) = fun _ => 0 := by
  funext a; fin_cases a <;> rfl

/-- A load of a whole buffer reads what the buffer holds. -/
theorem readAt_whole {κ : Kind} {sp : Space} {S : Shape} {e : EltTy} (v : View sig κ sp S e) {off : Fin S.rank → ℕ} (h : off = fun _ => 0)
    (inb : ∀ i, (off i + S.size i) ≤ S.size i) (f : v.ty.Contents (Elt F)) {x : S.Idx → Elt F e} (hx : v.read (Elt F) f = x) :
    v.readAt (Elt F) (Rect.unit off S.size inb).toLoadRect f = x :=
  (View.ld_unit_zero h inb (v.read (Elt F) f)).trans hx

/-- A load of a whole buffer just stored reads what was stored. -/
theorem readCov_whole {κ : Kind} {sp : Space} {S : Shape} {e : EltTy} (v : View sig κ sp S e) {off : Fin S.rank → ℕ} (h : off = fun _ => 0)
    (inb : ∀ i, (off i + S.size i) ≤ S.size i) {w x : S.Idx → Elt F e} (hx : w = x) :
    v.readCov (Val := Elt F) [⟨Rect.unit off S.size inb, w⟩] (Rect.unit off S.size inb).toLoadRect = x :=
  (View.readCov_eq_canon' v _ _).trans ((View.ld_unit_zero h inb (View.canon [⟨Rect.unit off S.size inb, w⟩])).trans ((View.canon_unit_zero h inb w).trans hx))

theorem congr3 {α β γ δ : Sort _} (f : α → β → γ → δ) {a a' : α} {b b' : β} {c c' : γ} (ha : a = a') (hb : b = b') (hc : c = c') :
    f a b c = f a' b' c' := by rw [ha, hb, hc]

variable (V : (c : Dev nD) → (b : Ref sig .tc) → Buf (Elt F) ((c : Thread nD τ).loc b))

/-- The block window `w` of call 2 stages at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of call 2 holds its block at every point, for proof data that leave it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of call 2 holds its block at every point, for proof data that leave it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of call 2 holds its block at every point, for proof data that leave it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of call 2 holds its block at every point, for proof data that leave it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S768x1 := Rect.unit (s := S768x1) ![0, 0] S768x1.size inb_S768x1_S768x1_0_0
abbrev r2_1 : Rect S768x18944 := Rect.unit (s := S768x18944) ![0, 0] S768x18944.size inb_S768x18944_S768x18944_0_0
abbrev r2_2 : Rect S256x18944 := Rect.unit (s := S256x18944) ![0, 0] S256x18944.size inb_S256x18944_S256x18944_0_0
abbrev r2_3 : Rect S1x256 := Rect.unit (s := S1x256) ![0, 0] S1x256.size inb_S1x256_S1x256_0_0
abbrev r2_4 : Rect S768x256 := Rect.unit (s := S768x256) ![0, 0] S768x256.size inb_S768x256_S768x256_0_0

/-- What the third call leaves in its `dx` block, from the input blocks. -/
def out2_4 (x0 : Vec F S768x18944 .fp8e5m2) (x1 : Vec F S256x18944 .fp8e4m3) (x2 : Vec F S1x256 .f32) (x3 : Vec F S768x1 .f32) : Vec F S768x256 .bf16 := k2_pay1 (k2_pay3 x3 x0 x1) x2
/-- What the third call leaves in its scale block, from the input blocks. -/
def out2_5 (x0 : Vec F S768x18944 .fp8e5m2) (x1 : Vec F S256x18944 .fp8e4m3) (x2 : Vec F S1x256 .f32) (x3 : Vec F S768x1 .f32) : Vec F S768x1 .f32 := k2_pay2 x3

theorem canon2_4 (x0 : Vec F S768x18944 .fp8e5m2) (x1 : Vec F S256x18944 .fp8e4m3) (x2 : Vec F S1x256 .f32) (x3 : Vec F S768x1 .f32) :
    View.canon [⟨r2_4, k2_pay1 (k2_pay3 (View.ld x3 r2_0) (View.ld x0 r2_1) (View.ld x1 r2_2)) (View.ld x2 r2_3)⟩] = out2_4 x0 x1 x2 x3 := by
  rw [View.canon_unit_zero off2, View.ld_unit_zero off2, View.ld_unit_zero off2, View.ld_unit_zero off2, View.ld_unit_zero off2]; rfl
theorem canon2_5 (x0 : Vec F S768x18944 .fp8e5m2) (x1 : Vec F S256x18944 .fp8e4m3) (x2 : Vec F S1x256 .f32) (x3 : Vec F S768x1 .f32) :
    View.canon [⟨r2_0, k2_pay2 (View.ld x3 r2_0)⟩] = out2_5 x0 x1 x2 x3 := by
  rw [View.canon_unit_zero off2, View.ld_unit_zero off2]; rfl
theorem cover2_4 (p0 : Vec F S768x256 .bf16) (y : S768x256.Idx) :
    ∃ pc ∈ ([⟨r2_4, p0⟩] : List (View.Piece (Elt F) S768x256 .bf16)), y ∈ pc.1.set :=
  View.cover_of_tiled [⟨r2_4, p0⟩] S768x256.size (by rfl) y
theorem cover2_5 (p0 : Vec F S768x1 .f32) (y : S768x1.Idx) :
    ∃ pc ∈ ([⟨r2_0, p0⟩] : List (View.Piece (Elt F) S768x1 .f32)), y ∈ pc.1.set :=
  View.cover_of_tiled [⟨r2_0, p0⟩] S768x1.size (by rfl) y

set_option maxHeartbeats 1000000 in
/-- The third call's body at one grid point: the inputs stay, each output holds `out2_4`, `out2_5` of them. -/
theorem sound_kernel2 (c : Dev nD) (E : Set ℕ) (i : grid2.Coords) (arg2 : Memref sig .tc .vmem S768x18944 .fp8e5m2) (harg2 : arg2.IsWhole) (arg3 : Memref sig .tc .vmem S256x18944 .fp8e4m3) (harg3 : arg3.IsWhole) (arg4 : Memref sig .tc .vmem S1x256 .f32) (harg4 : arg4.IsWhole) (arg5 : Memref sig .tc .vmem S768x1 .f32) (harg5 : arg5.IsWhole) (arg6 : Memref sig .tc .vmem S768x256 .bf16) (harg6 : arg6.IsWhole) (arg7 : Memref sig .tc .vmem S768x1 .f32) (harg7 : arg7.IsWhole)
    (x0 : Vec F S768x18944 .fp8e5m2) (x1 : Vec F S256x18944 .fp8e4m3) (x2 : Vec F S1x256 .f32) (x3 : Vec F S768x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3) ∗ owns (c : Thread nD τ) arg7 fullShare (out2_5 x0 x1 x2 x3)) -∗ K ⟨⟩))
      ⊢ wp frame (wpE (defs₀ (F := F)) Variants.none c none) E (cc2_dx i arg2 harg2 arg3 harg3 arg4 harg4 arg5 harg5 arg6 harg6 arg7 harg7) K := by
  simp only [cc2_dx_eq_skeleton]; unfold cc2_dx_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (cover2_4 _)).trans (canon2_4 _ _ _ _)
  iexists _; isplitr
  swap; · iexact H5
  ipureintro
  exact (View.read_writes_eq_canon _ _ _ (cover2_5 _)).trans (canon2_5 (arg2.view.read (Elt F) f0) (arg3.view.read (Elt F) f1) (arg4.view.read (Elt F) f2) _)

/-- The third call's proof data, over the arrays as the call finds them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Keep.lean ====
module

public import proofs.«01_k».proof.Proof.Dx
public import Idealize.ShloMosaic.Lib.BitcastFour
public import Idealize.ShloMosaic.Lib.PointwiseCore

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The lane of the mask block whose byte decides each column, as a word: the column divided by 8, plus the group's offset. -/
def laneWord (n h : BitVec 32) : IVec S384x128 32 :=
  select (cmpi .slt (addi k0_pay9 (broadcast S384x128 (Scalar.addi n h))) (broadcast S384x128 0#32))
    (addi (addi k0_pay9 (broadcast S384x128 (Scalar.addi n h))) (broadcast S384x128 128#32))
    (addi k0_pay9 (broadcast S384x128 (Scalar.addi n h)))

/-- Which elements of one group of 128 columns are kept: the mask bit of each, from the packed mask block. -/
def keep (m : IVec S1536x128 8) (n h : BitVec 32) : IVec S1536x128 1 :=
  cmpi .ne (extui 32 (bitcast S1536x128 8 (andi (dynamicGather 1
      (bitcast S384x128 32 m bitcasts_S1536x128_w8_S384x128_w32) (laneWord n h)) k0_pay8)
      bitcasts_S384x128_w32_S1536x128_w8) natLt_8_32) (broadcast S1536x128 0#32)

/-- Bit `q` of byte `(r, l)` of an array of words read as bytes. -/
theorem byte_bit (w : IVec S384x128 32) (h : S384x128.Bitcasts 32 S1536x128 8) (r : Fin 1536) (l : Fin 128) (q : ℕ) (hq : q < 8) :
    (bitcast S1536x128 8 w h (ix2 r l)).getLsbD q
      = (w (ix2 ⟨r.val / 4, by have := r.isLt; omega⟩ l)).getLsbD (8 * (r.val % 4) + q) := by
  rw [bitcast_getLsbD w h (ix2 r l) q hq (by decide)]
  have hrow : (S1536x128).row (ix2 r l) = r.val := rfl
  have e1 : ((S1536x128).row (ix2 r l) * 8 + q) / 32 = r.val / 4 := by rw [hrow]; omega
  have e2 : ((S1536x128).row (ix2 r l) * 8 + q) % 32 = 8 * (r.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem lane_value (n h : BitVec 32) (hn : n = 0#32 ∨ n = 16#32 ∨ n = 32#32 ∨ n = 48#32) (hh : h = 0#32 ∨ h = 64#32)
    (a : Fin 384) (l : Fin 128) : (laneWord n h (ix2 a l)).toNat = h.toNat + n.toNat + l.val / 8 := by
  have e : laneWord n h (ix2 a l) = laneWord n h (ix2 0 l) := rfl
  rw [e]
  clear e a
  rcases hn with rfl | rfl | rfl | rfl <;> rcases hh with rfl | rfl <;> revert l <;> decide +kernel

theorem shift_bits : ∀ (l : Fin 128) (k : Fin 4) (q : Fin 8),
    (k0_pay8 (ix2 (0 : Fin 384) l)).getLsbD (8 * k.val + q.val) = decide (q.val = l.val % 8) := by decide +kernel

theorem group_lt {n h : BitVec 32} (hn : n = 0#32 ∨ n = 16#32 ∨ n = 32#32 ∨ n = 48#32) (hh : h = 0#32 ∨ h = 64#32) (l : Fin 128) :
    h.toNat + n.toNat + l.val / 8 < 128 := by
  have hl := l.isLt
  have e64 : (64#32 : BitVec 32).toNat = 64 := rfl
  have e16 : (16#32 : BitVec 32).toNat = 16 := rfl
  have e32 : (32#32 : BitVec 32).toNat = 32 := rfl
  have e48 : (48#32 : BitVec 32).toNat = 48 := rfl
  have e0 : (0#32 : BitVec 32).toNat = 0 := rfl
  rcases hn with rfl | rfl | rfl | rfl <;> rcases hh with rfl | rfl <;> omega

/-- An element is kept exactly when bit `l % 8` of the mask byte at lane `h + n + l / 8` of its row is set. -/
theorem keep_apply (m : IVec S1536x128 8) (n h : BitVec 32) (hn : n = 0#32 ∨ n = 16#32 ∨ n = 32#32 ∨ n = 48#32) (hh : h = 0#32 ∨ h = 64#32)
    (r : Fin 1536) (l : Fin 128) :
    keep m n h (ix2 r l) = BitVec.ofBool ((m (ix2 r ⟨h.toNat + n.toNat + l.val / 8, group_lt hn hh l⟩)).getLsbD (l.val % 8)) := by
  have hr := r.isLt
  set b := (m (ix2 r ⟨h.toNat + n.toNat + l.val / 8, group_lt hn hh l⟩)).getLsbD (l.val % 8) with hb
  set w := andi (dynamicGather 1 (bitcast S384x128 32 m bitcasts_S1536x128_w8_S384x128_w32) (laneWord n h)) k0_pay8 with hw
  set x := bitcast S1536x128 8 w bitcasts_S384x128_w32_S1536x128_w8 (ix2 r l) with hx
  have hbit : ∀ q, q < 8 → x.getLsbD q = (decide (q = l.val % 8) && b) := by
    intro q hq
    rw [hx, byte_bit w _ r l q hq]
    have e1 : w (ix2 ⟨r.val / 4, by omega⟩ l)
        = bitcast S384x128 32 m bitcasts_S1536x128_w8_S384x128_w32 (ix2 ⟨r.val / 4, by omega⟩ ⟨h.toNat + n.toNat + l.val / 8, group_lt hn hh l⟩)
          &&& k0_pay8 (ix2 (0 : Fin 384) l) := by
      show dynamicGather 1 _ _ _ &&& _ = _
      congr 1
      show bitcast S384x128 32 m bitcasts_S1536x128_w8_S384x128_w32 _ = _
      congr 1
      funext c
      match c with
      | ⟨0, _⟩ => rfl
      | ⟨1, _⟩ =>
        refine Fin.ext ?_
        show (laneWord n h _).toNat % 128 = _
        rw [lane_value n h hn hh]
        exact Nat.mod_eq_of_lt (group_lt hn hh l)
    have e2 : (bitcast S384x128 32 m bitcasts_S1536x128_w8_S384x128_w32 (ix2 ⟨r.val / 4, by omega⟩ ⟨h.toNat + n.toNat + l.val / 8, group_lt hn hh l⟩)).getLsbD (8 * (r.val % 4) + q)
        = (m (ix2 r ⟨h.toNat + n.toNat + l.val / 8, group_lt hn hh l⟩)).getLsbD ((8 * (r.val % 4) + q) % 8) :=
      bitcast_8_32_getLsbD_ix2 m bitcasts_S1536x128_w8_S384x128_w32 ⟨r.val / 4, by omega⟩ ⟨h.toNat + n.toNat + l.val / 8, group_lt hn hh l⟩ (8 * (r.val % 4) + q) (by omega) r (by show r.val = 4 * (r.val / 4) + _; omega)
    rw [e1, BitVec.getLsbD_and, e2, shift_bits l ⟨r.val % 4, by omega⟩ ⟨q, hq⟩]
    rw [show (8 * (r.val % 4) + q) % 8 = q by omega, hb]
    by_cases hql : q = l.val % 8
    · subst hql; simp
    · simp [hql]
  have key : (x.setWidth 32 ≠ 0#32) ↔ b = true := by
    constructor
    · intro hne
      by_contra hbf
      apply hne
      have hx0 : x = 0#8 := by
        apply BitVec.eq_of_getLsbD_eq
        intro q hq
        rw [hbit q hq]
        simp [Bool.eq_false_iff.mpr hbf]
      rw [hx0]; rfl
    · intro hbt h0
      have hl8 : l.val % 8 < 8 := Nat.mod_lt _ (by decide)
      have h1 := hbit (l.val % 8) hl8
      have h2 : (x.setWidth 32).getLsbD (l.val % 8) = x.getLsbD (l.val % 8) := by
        rw [BitVec.getLsbD_setWidth]; simp; omega
      rw [h0] at h2
      rw [← h2, hbt] at h1
      simp at h1
  show BitVec.ofBool (x.setWidth 32 != 0#32) = _
  congr 1
  cases hbv : b
  · rw [bne_eq_false_iff_eq]
    by_contra hne
    exact absurd (key.mp hne) (by rw [hbv]; decide)
  · rw [bne_iff_ne]; exact key.mpr hbv

end Cert.KernelIdeal.Whole

end
-- ==== Proof.Dw.lean ====
module

public import proofs.«01_k».proof.Proof.Dx

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` of call 1 stages at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1 holds its block at every point, for proof data that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1 holds its block at every point, for proof data that leave it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1 holds its block at every point, for proof data that leave it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1 holds its block at every point, for proof data that leave it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1 holds its block at every point, for proof data that leave it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 of call 1 holds its block at every point, for proof data that leave it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The condition of the second call's body: the grid's first point. -/
abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val % 37 = 0 :=
  (fun t => by
    have ht : t.val < 37 := Nat.lt_of_lt_of_eq t.isLt N_1
    have e0 : (grid1.coords t 0).val = t.val / 1 % 37 := Pipeline.Grid.coords_val t 0 (by decide) rfl
    simp only [first1, e0]
    word_cmp
   : ∀ t : Fin grid1.N, first1 (grid1.coords t) ↔ t.val % 37 = 0)

theorem cover1_6 (p0 : Vec F S512x3584 .f32) (y : S512x3584.Idx) :
    ∃ pc ∈ ([⟨Rect.unit (s := S512x3584) ![0, 0] S512x3584.size inb_S512x3584_S512x3584_0_0, p0⟩] : List (View.Piece (Elt F) S512x3584 .f32)), y ∈ pc.1.set :=
  View.cover_of_tiled [⟨Rect.unit (s := S512x3584) ![0, 0] S512x3584.size inb_S512x3584_S512x3584_0_0, p0⟩] S512x3584.size (by rfl) y
theorem cover1_7 (p0 : Vec F S1536x512 .fp8e5m2) (y : S1536x512.Idx) :
    ∃ pc ∈ ([⟨Rect.unit (s := S1536x512) ![0, 0] S1536x512.size inb_S1536x512_S1536x512_0_0, p0⟩] : List (View.Piece (Elt F) S1536x512 .fp8e5m2)), y ∈ pc.1.set :=
  View.cover_of_tiled [⟨Rect.unit (s := S1536x512) ![0, 0] S1536x512.size inb_S1536x512_S1536x512_0_0, p0⟩] S1536x512.size (by rfl) y
theorem cover1_8 (p0 : Vec F S1536x3584 .bf16) (y : S1536x3584.Idx) :
    ∃ pc ∈ ([⟨Rect.unit (s := S1536x3584) ![0, 0] S1536x3584.size inb_S1536x3584_S1536x3584_0_0, p0⟩] : List (View.Piece (Elt F) S1536x3584 .bf16)), y ∈ pc.1.set :=
  View.cover_of_tiled [⟨Rect.unit (s := S1536x3584) ![0, 0] S1536x3584.size inb_S1536x3584_S1536x3584_0_0, p0⟩] S1536x3584.size (by rfl) y
theorem cover1_9 (p0 : Vec F S1536x1 .f32) (y : S1536x1.Idx) :
    ∃ pc ∈ ([⟨Rect.unit (s := S1536x1) ![0, 0] S1536x1.size inb_S1536x1_S1536x1_0_0, p0⟩] : List (View.Piece (Elt F) S1536x1 .f32)), y ∈ pc.1.set :=
  View.cover_of_tiled [⟨Rect.unit (s := S1536x1) ![0, 0] S1536x1.size inb_S1536x1_S1536x1_0_0, p0⟩] S1536x1.size (by rfl) y

set_option maxHeartbeats 1000000 in
/-- The second call's body at its first point: it fills the two scratch buffers and uses them. -/
theorem sound_first1 (c : Dev nD) (E : Set ℕ) (i : grid1.Coords) (arg1 : Memref sig .tc .vmem S1536x512 .fp8e4m3) (harg1 : arg1.IsWhole) (arg2 : Memref sig .tc .vmem S1x1536 .f32) (harg2 : arg2.IsWhole) (arg3 : Memref sig .tc .vmem S1536x3584 .fp8e5m2) (harg3 : arg3.IsWhole) (arg4 : Memref sig .tc .vmem S1536x1 .f32) (harg4 : arg4.IsWhole) (arg5 : Memref sig .tc .vmem S1536x512 .f32) (harg5 : arg5.IsWhole) (arg6 : Memref sig .tc .vmem S1536x1 .f32) (harg6 : arg6.IsWhole) (arg7 : Memref sig .tc .vmem S512x3584 .f32) (harg7 : arg7.IsWhole) (arg8 : Memref sig .tc .vmem S1536x512 .fp8e5m2) (harg8 : arg8.IsWhole) (arg9 : Memref sig .tc .vmem S1536x3584 .bf16) (harg9 : arg9.IsWhole) (arg10 : Memref sig .tc .vmem S1536x1 .f32) (harg10 : arg10.IsWhole) (hc0 : first1 i)
    (x0 : Vec F S1536x512 .fp8e4m3) (x1 : Vec F S1x1536 .f32) (x2 : Vec F S1536x3584 .fp8e5m2) (x3 : Vec F S1536x1 .f32) (x4 : Vec F S1536x512 .f32) (x5 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 (k1_pay4 x2 x3)) ∗ owns (c : Thread nD τ) arg8 fullShare (k1_pay3 x4 (k1_pay1 (k1_pay5 (F := F) x5))) ∗ owns (c : Thread nD τ) arg9 fullShare (k1_pay4 x2 x3) ∗ owns (c : Thread nD τ) arg10 fullShare (k1_pay1 (k1_pay5 (F := F) x5))) -∗ K ⟨⟩))
      ⊢ wp frame (wpE (defs₀ (F := F)) Variants.none c none) E (cc1_dw2 i arg1 harg1 arg2 harg2 arg3 harg3 arg4 harg4 arg5 harg5 arg6 harg6 arg7 harg7 arg8 harg8 arg9 harg9 arg10 harg10) K := by
  simp only [cc1_dw2_eq_skeleton]; unfold cc1_dw2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (View.read_writes_eq_canon _ _ _ (cover1_6 _)).trans ((View.canon_unit_zero off2 _ _).trans ?_)
    exact congr3 k1_pay2 (readAt_whole _ off2 _ _ (harg1.read_unread _)) (readAt_whole _ off2 _ _ (harg2.read_unread _)) (readCov_whole _ off2 _ (congrArg₂ k1_pay4 (readAt_whole _ off2 _ _ (harg3.read_unread _)) (readAt_whole _ off2 _ _ (harg4.read_unread _))))
  isplitl [H7]
  · iexists _; isplitr
    swap; · iexact H7
    ipureintro
    refine (View.read_writes_eq_canon _ _ _ (cover1_7 _)).trans ((View.canon_unit_zero off2 _ _).trans ?_)
    exact congrArg₂ k1_pay3 (readAt_whole _ off2 _ _ (harg5.read_unread _)) (readCov_whole _ off2 _ (congrArg (fun x => k1_pay1 (k1_pay5 (F := F) x)) (readAt_whole _ off2 _ _ (harg6.read_unread _))))
  isplitl [H8]
  · iexists _; isplitr
    swap; · iexact H8
    ipureintro
    refine (View.read_writes_eq_canon _ _ _ (cover1_8 _)).trans ((View.canon_unit_zero off2 _ _).trans ?_)
    exact (congrArg₂ k1_pay4 (readAt_whole _ off2 _ _ (harg3.read_unread _)) (readAt_whole _ off2 _ _ (harg4.read_unread _)))
  iexists _; isplitr
  swap; · iexact H9
  ipureintro
  refine (View.read_writes_eq_canon _ _ _ (cover1_9 _)).trans ((View.canon_unit_zero off2 _ _).trans ?_)
  exact (congrArg (fun x => k1_pay1 (k1_pay5 (F := F) x)) (readAt_whole _ off2 _ _ (harg6.read_unread _)))

set_option maxHeartbeats 1000000 in
/-- The second call's body at a later point: it uses the two scratch buffers as it finds them. -/
theorem sound_later1 (c : Dev nD) (E : Set ℕ) (i : grid1.Coords) (arg1 : Memref sig .tc .vmem S1536x512 .fp8e4m3) (harg1 : arg1.IsWhole) (arg2 : Memref sig .tc .vmem S1x1536 .f32) (harg2 : arg2.IsWhole) (arg3 : Memref sig .tc .vmem S1536x3584 .fp8e5m2) (harg3 : arg3.IsWhole) (arg4 : Memref sig .tc .vmem S1536x1 .f32) (harg4 : arg4.IsWhole) (arg5 : Memref sig .tc .vmem S1536x512 .f32) (harg5 : arg5.IsWhole) (arg6 : Memref sig .tc .vmem S1536x1 .f32) (harg6 : arg6.IsWhole) (arg7 : Memref sig .tc .vmem S512x3584 .f32) (harg7 : arg7.IsWhole) (arg8 : Memref sig .tc .vmem S1536x512 .fp8e5m2) (harg8 : arg8.IsWhole) (arg9 : Memref sig .tc .vmem S1536x3584 .bf16) (harg9 : arg9.IsWhole) (arg10 : Memref sig .tc .vmem S1536x1 .f32) (harg10 : arg10.IsWhole) (hc0 : ¬ first1 i)
    (x0 : Vec F S1536x512 .fp8e4m3) (x1 : Vec F S1x1536 .f32) (x2 : Vec F S1536x3584 .fp8e5m2) (x3 : Vec F S1536x1 .f32) (x4 : Vec F S1536x512 .f32) (x5 : Vec F S1536x1 .f32) (s0 : Vec F S1536x3584 .bf16) (s1 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 s0) ∗ owns (c : Thread nD τ) arg8 fullShare (k1_pay3 x4 s1) ∗ owns (c : Thread nD τ) arg9 fullShare s0 ∗ owns (c : Thread nD τ) arg10 fullShare s1) -∗ K ⟨⟩))
      ⊢ wp frame (wpE (defs₀ (F := F)) Variants.none c none) E (cc1_dw2 i arg1 harg1 arg2 harg2 arg3 harg3 arg4 harg4 arg5 harg5 arg6 harg6 arg7 harg7 arg8 harg8 arg9 harg9 arg10 harg10) K := by
  simp only [cc1_dw2_eq_skeleton]; unfold cc1_dw2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (View.read_writes_eq_canon _ _ _ (cover1_6 _)).trans ((View.canon_unit_zero off2 _ _).trans ?_)
    exact congr3 k1_pay2 (readAt_whole _ off2 _ _ (harg1.read_unread _)) (readAt_whole _ off2 _ _ (harg2.read_unread _)) (readAt_whole _ off2 _ _ (harg9.read_unread _))
  isplitl [H7]
  · iexists _; isplitr
    swap; · iexact H7
    ipureintro
    refine (View.read_writes_eq_canon _ _ _ (cover1_7 _)).trans ((View.canon_unit_zero off2 _ _).trans ?_)
    exact congrArg₂ k1_pay3 (readAt_whole _ off2 _ _ (harg5.read_unread _)) (readAt_whole _ off2 _ _ (harg10.read_unread _))
  isplitl [H8]
  · iexists _; isplitr; · ipureintro; exact harg9.read_unread _
    iexact H8
  iexists _; isplitr; · ipureintro; exact harg10.read_unread _
  iexact H9

/-! ## The proof data of the second call -/

theorem N1 : cfg1.N = 37 := N_1
/-- The grid's first point. -/
abbrev p1 : Fin cfg1.N := ⟨0, by rw [N1]; decide⟩
/-- What the first scratch buffer holds from the first point on. -/
def gb (c : Dev nD) : Vec F S1536x3584 .bf16 := k1_pay4 (iblk1 V c 2 p1) (iblk1 V c 3 p1)
/-- What the second scratch buffer holds from the first point on. -/
def inv (c : Dev nD) : Vec F S1536x1 .f32 := k1_pay1 (k1_pay5 (F := F) (iblk1 V c 5 p1))

/-- The call's scratch memory and its generator, before the first point and after each point. -/
def Phi1 (c : Dev nD) : (n : ℕ) → sProp 𝕄
  | 0 => Pipeline.ΦA spec1 c
  | _ + 1 => iprop(iprop(iprop(owns (c : Thread nD τ) (Memref.whole cc1_scratch0 : Memref sig .tc .vmem S1536x3584 .bf16) fullShare (gb V c)
      ∗ owns (c : Thread nD τ) (Memref.whole cc1_scratch1 : Memref sig .tc .vmem S1536x1 .f32) fullShare (inv V c))
      ∗ Pipeline.scopedRestBut (Val := Elt F) (Ix := Unit) (Name := ℕ) (U := UR sig nD τ) (Lvl := ℕ) spec1 c [cc1_scratch0, cc1_scratch1]) ∗ (∃ r, prngReg c r))

theorem PhiA1_eq (c : Dev nD) : (Pipeline.ΦA spec1 c : sProp 𝕄)
    = iprop(iprop(iprop((∃ d, owns (c : Thread nD τ) (Memref.whole cc1_scratch0 : Memref sig .tc .vmem S1536x3584 .bf16) fullShare d)
      ∗ (∃ d, owns (c : Thread nD τ) (Memref.whole cc1_scratch1 : Memref sig .tc .vmem S1536x1 .f32) fullShare d))
      ∗ Pipeline.scopedRestBut (Val := Elt F) (Ix := Unit) (Name := ℕ) (U := UR sig nD τ) (Lvl := ℕ) spec1 c [cc1_scratch0, cc1_scratch1]) ∗ (∃ r, prngReg c r)) := by
  unfold Pipeline.ΦA; rw [scopedRest1_split]; simp only [owns_whole]; try rfl

/-- The second call's proof data, over the arrays as the call finds them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (iblk1 V c 1 t) (gb V c)
    | ⟨7, _⟩ => k1_pay3 (iblk1 V c 4 t) (inv V c)
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (iblk1 V c 0 t) (iblk1 V c 1 t) (gb V c) := by dsimp only [dat1]
theorem after1_7 (c : Dev nD) (t : Fin cfg1.N) : (dat1 V c).after 7 t = k1_pay3 (iblk1 V c 4 t) (inv V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem Phi1_cast (c : Dev nD) (t : Fin cfg1.N) : (dat1 V c).Φ t.castSucc = Phi1 V c t.val := by
  dsimp only [dat1]; exact Pipeline.Dat.Φ_castSucc (fun n _ => Phi1 V c n) t

set_option maxHeartbeats 1000000 in
/-- The body at any point, by the two triples above. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  rw [show (dat1 V c).Φ t.succ = Phi1 V c (t.val + 1) from rfl, Phi1_cast]
  have hN : t.val < 37 := lt_of_lt_of_eq t.isLt N1
  by_cases h0 : t.val = 0
  · have hf : first1 (grid1.coords t) := (first1_iff t).mpr (by omega)
    have ht : t = p1 := Fin.ext h0
    rw [h0, show Phi1 V c 0 = Pipeline.ΦA spec1 c from rfl, PhiA1_eq]
    unfold Phi1 gb inv
    rw [← ht]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first1 c Set.univ (grid1.coords t) _ _ _ _ _ _ _ _ _ _ _ _ _ _ _ _ _ _ _ _ hf (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HB Hg]
    · isplitl [HS0 HS1 HB]
      · isplitl [HS0 HS1]
        · isplitl [HS0]
          · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hf : ¬ first1 (grid1.coords t) := fun h => h0 (by have := (first1_iff t).mp h; omega)
    obtain ⟨n, hn⟩ : ∃ n, t.val = n + 1 := ⟨t.val - 1, by omega⟩
    rw [hn]
    unfold Phi1
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later1 c Set.univ (grid1.coords t) _ _ _ _ _ _ _ _ _ _ _ _ _ _ _ _ _ _ _ _ hf (iblk1 V c 0 t) (iblk1 V c 1 t) (iblk1 V c 2 t) (iblk1 V c 3 t) (iblk1 V c 4 t) (iblk1 V c 5 t) (gb V c) (inv V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HB Hg]
    · isplitl [HS0 HS1 HB]
      · isplitl [HS0 HS1]
        · isplitl [HS0]
          · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) :
    defs₀ (F := F) .tc cfg1.body (cfg1.bodyArgs t (cfg1.slots t)) = bodyAt1 t := by
  unfold defs₀; rw [Defs.onTc_tc]

/-- The body obligation of the second call. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the scratch contents are forgotten. -/
theorem Phi1_out (c : Dev nD) : (dat1 V c).Φ (Fin.last cfg1.N) ⊢ Pipeline.ΦA spec1 c := by
  have e : (dat1 V c).Φ (Fin.last cfg1.N) = Phi1 V c (36 + 1) := by
    show Phi1 V c (Fin.last cfg1.N).val = _
    rw [Fin.val_last, N1]
  rw [e, PhiA1_eq]
  unfold Phi1
  iintro ⟨⟨⟨HS0, HS1⟩, HB⟩, Hg⟩
  isplitl [HS0 HS1 HB]
  · isplitl [HS0 HS1]
    · isplitl [HS0]
      · iexists _; iexact HS0
      iexists _; iexact HS1
    iexact HB
  iexact Hg

end Cert.KernelIdeal.Whole

end
-- ==== Proof.Dh.lean ====
module

public import proofs.«01_k».proof.Proof.Keep
public import proofs.«01_k».proof.Proof.Dw

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One group of 128 columns of the masked product: the columns `x` scaled per row by `s`, and zero where the mask drops them. -/
def tile (x : FVec F S1536x128 .f32) (m : IVec S1536x128 8) (n h : BitVec 32) (s : Vec F S1536x1 .f32) : FVec F S1536x128 .f32 :=
  select (keep m n h) (mulf x (broadcastTo S1536x128 s broadcasts_S1536x1_S1536x128)) (broadcast S1536x128 (Scalar.ofBits .f32 0x00000000#32))

def tile0 (g : FVec F S1536x512 .f32) (m : IVec S1536x128 8) (h : BitVec 32) (s : Vec F S1536x1 .f32) : FVec F S1536x128 .f32 :=
  tile (extractStridedSlice S1536x128 ![0, 0] g slices_S1536x512_o0_0_S1536x128) m 0#32 h s
def tile1 (g : FVec F S1536x512 .f32) (m : IVec S1536x128 8) (h : BitVec 32) (s : Vec F S1536x1 .f32) : FVec F S1536x128 .f32 :=
  tile (extractStridedSlice S1536x128 ![0, 128] g slices_S1536x512_o0_128_S1536x128) m 16#32 h s
def tile2 (g : FVec F S1536x512 .f32) (m : IVec S1536x128 8) (h : BitVec 32) (s : Vec F S1536x1 .f32) : FVec F S1536x128 .f32 :=
  tile (extractStridedSlice S1536x128 ![0, 256] g slices_S1536x512_o0_256_S1536x128) m 32#32 h s
def tile3 (g : FVec F S1536x512 .f32) (m : IVec S1536x128 8) (h : BitVec 32) (s : Vec F S1536x1 .f32) : FVec F S1536x128 .f32 :=
  tile (extractStridedSlice S1536x128 ![0, 384] g slices_S1536x512_o0_384_S1536x128) m 48#32 h s

abbrev lanes0 : IVec S384x128 32 := iota .tc S384x128 32 [1] iota_S384x128_d1_w32

theorem tile0_eq (g : FVec F S1536x512 .f32) (m : Vec F S1536x128 .i8) (h : BitVec 32) (s : Vec F S1536x1 .f32) :
    k0_pay10 g (k0_pay7 m) k0_pay8 h k0_pay9 0#32 s = tile0 g m h s := by
  unfold k0_pay10 k0_pay7 tile0 tile keep laneWord k0_pay9; simp only [shapeCast_comp, shapeCast_id]
theorem tile1_eq (g : FVec F S1536x512 .f32) (m : Vec F S1536x128 .i8) (h : BitVec 32) (s : Vec F S1536x1 .f32) :
    k0_pay14 (k0_pay12 (k0_pay7 m) lanes0 k0_pay8 h) (k0_pay13 g) s = tile1 g m h s := by
  unfold k0_pay14 k0_pay12 k0_pay13 k0_pay7 tile1 tile keep laneWord k0_pay9; simp only [shapeCast_comp, shapeCast_id]
theorem tile2_eq (g : FVec F S1536x512 .f32) (m : Vec F S1536x128 .i8) (h : BitVec 32) (s : Vec F S1536x1 .f32) :
    k0_pay15 g (k0_pay7 m) lanes0 k0_pay8 h s = tile2 g m h s := by
  unfold k0_pay15 k0_pay7 tile2 tile keep laneWord k0_pay9; simp only [shapeCast_comp, shapeCast_id]
theorem tile3_eq (g : FVec F S1536x512 .f32) (m : Vec F S1536x128 .i8) (h : BitVec 32) (s : Vec F S1536x1 .f32) :
    k0_pay1 g (k0_pay7 m) k0_pay8 (k0_pay17 lanes0 h) s = tile3 g m h s := by
  unfold k0_pay1 k0_pay7 k0_pay17 tile3 tile keep laneWord k0_pay9; simp only [shapeCast_comp, shapeCast_id]

/-- What the first call leaves in one block of its result. -/
def dhOut (g : FVec F S1536x512 .f32) (m : IVec S1536x128 8) (h : BitVec 32) (s : Vec F S1536x1 .f32) : Vec F S1536x512 .f32 :=
  View.canon (Val := Elt F) (e := .f32) [⟨Rect.unit (s := S1536x512) ![0, 384] S1536x128.size inb_S1536x512_S1536x128_0_384, tile3 g m h s⟩,
    ⟨Rect.unit (s := S1536x512) ![0, 256] S1536x128.size inb_S1536x512_S1536x128_0_256, tile2 g m h s⟩,
    ⟨Rect.unit (s := S1536x512) ![0, 128] S1536x128.size inb_S1536x512_S1536x128_0_128, tile1 g m h s⟩,
    ⟨Rect.unit (s := S1536x512) ![0, 0] S1536x128.size inb_S1536x512_S1536x128_0_0, tile0 g m h s⟩]

/-- The running maximum of the magnitudes after one more block. -/
def runOut (g : FVec F S1536x512 .f32) (m : IVec S1536x128 8) (h : BitVec 32) (s : Vec F S1536x1 .f32) (run : Vec F S1536x128 .f32) : Vec F S1536x128 .f32 :=
  maximumf (maximumf (maximumf (maximumf run (absf (tile0 g m h s))) (absf (tile1 g m h s))) (absf (tile2 g m h s))) (absf (tile3 g m h s))

theorem dh_canon {g' g : FVec F S1536x512 .f32} {m' m : Vec F S1536x128 .i8} (h : BitVec 32) {s' s : Vec F S1536x1 .f32}
    (hg : g' = g) (hm : m' = m) (hs : s' = s) :
    View.canon (Val := Elt F) (e := .f32) [⟨Rect.unit (s := S1536x512) ![0, 384] S1536x128.size inb_S1536x512_S1536x128_0_384, k0_pay1 g' (k0_pay7 m') k0_pay8 (k0_pay17 lanes0 h) s'⟩,
      ⟨Rect.unit (s := S1536x512) ![0, 256] S1536x128.size inb_S1536x512_S1536x128_0_256, k0_pay15 g' (k0_pay7 m') lanes0 k0_pay8 h s'⟩,
      ⟨Rect.unit (s := S1536x512) ![0, 128] S1536x128.size inb_S1536x512_S1536x128_0_128, k0_pay14 (k0_pay12 (k0_pay7 m') lanes0 k0_pay8 h) (k0_pay13 g') s'⟩,
      ⟨Rect.unit (s := S1536x512) ![0, 0] S1536x128.size inb_S1536x512_S1536x128_0_0, k0_pay10 g' (k0_pay7 m') k0_pay8 h k0_pay9 0#32 s'⟩] = dhOut g m h s := by
  rw [hg, hm, hs, tile0_eq, tile1_eq, tile2_eq, tile3_eq]; rfl

theorem run_eq {g' g : FVec F S1536x512 .f32} {m' m : Vec F S1536x128 .i8} (h : BitVec 32) {s' s : Vec F S1536x1 .f32} {r' r : Vec F S1536x128 .f32}
    (hg : g' = g) (hm : m' = m) (hs : s' = s) (hr : r' = r) :
    k0_pay2 g' (k0_pay7 m') k0_pay8 (k0_pay16 g' (k0_pay7 m') lanes0 k0_pay8 h (k0_pay11 g' (k0_pay7 m') k0_pay8 h r' k0_pay9 0#32 s')
        (k0_pay12 (k0_pay7 m') lanes0 k0_pay8 h) (k0_pay13 g') s' s') (k0_pay17 lanes0 h) s' = runOut g m h s r := by
  unfold k0_pay2 k0_pay16 k0_pay11
  rw [hg, hm, hs, hr, tile0_eq, tile1_eq, tile2_eq, tile3_eq]
  simp only [shapeCast_id]; rfl

theorem cover0_5 (p3 p2 p1 p0 : Vec F S1536x128 .f32) (y : S1536x512.Idx) :
    ∃ pc ∈ ([⟨Rect.unit (s := S1536x512) ![0, 384] S1536x128.size inb_S1536x512_S1536x128_0_384, p3⟩,
      ⟨Rect.unit (s := S1536x512) ![0, 256] S1536x128.size inb_S1536x512_S1536x128_0_256, p2⟩,
      ⟨Rect.unit (s := S1536x512) ![0, 128] S1536x128.size inb_S1536x512_S1536x128_0_128, p1⟩,
      ⟨Rect.unit (s := S1536x512) ![0, 0] S1536x128.size inb_S1536x512_S1536x128_0_0, p0⟩] : List (View.Piece (Elt F) S1536x512 .f32)), y ∈ pc.1.set :=
  View.cover_of_tiled ([⟨Rect.unit (s := S1536x512) ![0, 384] S1536x128.size inb_S1536x512_S1536x128_0_384, p3⟩,
      ⟨Rect.unit (s := S1536x512) ![0, 256] S1536x128.size inb_S1536x512_S1536x128_0_256, p2⟩,
      ⟨Rect.unit (s := S1536x512) ![0, 128] S1536x128.size inb_S1536x512_S1536x128_0_128, p1⟩,
      ⟨Rect.unit (s := S1536x512) ![0, 0] S1536x128.size inb_S1536x512_S1536x128_0_0, p0⟩] : List (View.Piece (Elt F) S1536x512 .f32)) S1536x128.size (by rfl) y
theorem cover0_6 (p0 : Vec F S1536x1 .f32) (y : S1536x1.Idx) :
    ∃ pc ∈ ([⟨Rect.unit (s := S1536x1) ![0, 0] S1536x1.size inb_S1536x1_S1536x1_0_0, p0⟩] : List (View.Piece (Elt F) S1536x1 .f32)), y ∈ pc.1.set :=
  View.cover_of_tiled [⟨Rect.unit (s := S1536x1) ![0, 0] S1536x1.size inb_S1536x1_S1536x1_0_0, p0⟩] S1536x1.size (by rfl) y
theorem cover0_s0 (p0 : Vec F S1536x3584 .bf16) (y : S1536x3584.Idx) :
    ∃ pc ∈ ([⟨Rect.unit (s := S1536x3584) ![0, 0] S1536x3584.size inb_S1536x3584_S1536x3584_0_0, p0⟩] : List (View.Piece (Elt F) S1536x3584 .bf16)), y ∈ pc.1.set :=
  View.cover_of_tiled [⟨Rect.unit (s := S1536x3584) ![0, 0] S1536x3584.size inb_S1536x3584_S1536x3584_0_0, p0⟩] S1536x3584.size (by rfl) y
theorem cover0_s1 (p0 : Vec F S1536x128 .f32) (L : List (View.Piece (Elt F) S1536x128 .f32)) (y : S1536x128.Idx) :
    ∃ pc ∈ ((⟨Rect.unit (s := S1536x128) ![0, 0] S1536x128.size inb_S1536x128_S1536x128_0_0, p0⟩ : View.Piece (Elt F) S1536x128 .f32) :: L), y ∈ pc.1.set := by
  obtain ⟨pc, h, hy⟩ := View.cover_of_tiled [(⟨Rect.unit (s := S1536x128) ![0, 0] S1536x128.size inb_S1536x128_S1536x128_0_0, p0⟩ : View.Piece (Elt F) S1536x128 .f32)] S1536x128.size (by rfl) y
  rw [List.mem_singleton] at h
  exact ⟨pc, by rw [h]; exact List.mem_cons_self, hy⟩

/-- The first lane of the mask block the body reads, as it computes it. -/
def halfWord (i : grid0.Coords) : BitVec 32 :=
  Scalar.muli (Scalar.select (Scalar.andi (Scalar.xori (Scalar.cmpi .slt (Scalar.remsi (BitVec.ofNat 32 (i 0).val) (Scalar.select (Scalar.cmpi .eq 2#32 0#32) 1#32 2#32)) 0#32)
      (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32))
      (Scalar.addi (Scalar.remsi (BitVec.ofNat 32 (i 0).val) (Scalar.select (Scalar.cmpi .eq 2#32 0#32) 1#32 2#32)) (Scalar.select (Scalar.cmpi .eq 2#32 0#32) 1#32 2#32))
      (Scalar.remsi (BitVec.ofNat 32 (i 0).val) (Scalar.select (Scalar.cmpi .eq 2#32 0#32) 1#32 2#32))) 64#32

/-- The condition of the first call's body: the grid's first point. -/
abbrev first0 (i : grid0.Coords) : Prop := (Scalar.cmpi .ne (Scalar.extui (Scalar.cmpi .eq (BitVec.ofNat 32 (i 0).val) 0#32)) 0#32) = 1#1

set_option maxHeartbeats 2000000 in
/-- The first call's body at its first point. -/
theorem sound_first0 (c : Dev nD) (E : Set ℕ) (i : grid0.Coords) (arg1 : Memref sig .tc .vmem S1536x3584 .fp8e5m2) (harg1 : arg1.IsWhole) (arg2 : Memref sig .tc .vmem S1536x1 .f32) (harg2 : arg2.IsWhole) (arg3 : Memref sig .tc .vmem S1536x128 .i8) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S1536x512 .f32) (harg6 : arg6.IsWhole) (arg7 : Memref sig .tc .vmem S1536x1 .f32) (harg7 : arg7.IsWhole) (arg8 : Memref sig .tc .vmem S1536x3584 .bf16) (harg8 : arg8.IsWhole) (arg9 : Memref sig .tc .vmem S1536x128 .f32) (harg9 : arg9.IsWhole) (hc0 : first0 i) (hc2 : ¬ k0_cond2 i = 1#1)
    (x0 : Vec F S1536x3584 .fp8e5m2) (x1 : Vec F S1536x1 .f32) (x2 : Vec F S1536x128 .i8) (x3 : Vec F S512x3584 .fp8e4m3) (x4 : Vec F S1x3584 .f32) (x6 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhOut (k0_pay6 x3 x4 (k0_pay4 x0)) x2 (halfWord i) x1) ∗ owns (c : Thread nD τ) arg7 fullShare x6 ∗ owns (c : Thread nD τ) arg8 fullShare (k0_pay4 x0) ∗ owns (c : Thread nD τ) arg9 fullShare (runOut (k0_pay6 x3 x4 (k0_pay4 x0)) x2 (halfWord i) x1 k0_pay5)) -∗ K ⟨⟩))
      ⊢ wp frame (wpE (defs₀ (F := F)) Variants.none c none) E (cc0_dh i arg1 harg1 arg2 harg2 arg3 harg3 arg4 harg4 arg5 harg5 arg6 harg6 arg7 harg7 arg8 harg8 arg9 harg9) K := by
  simp only [cc0_dh_eq_skeleton]; unfold cc0_dh_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_eq_canon _ _ _ (cover0_5 _ _ _ _)).trans (dh_canon (halfWord i) (congr3 k0_pay6 (readAt_whole _ off2 _ _ (harg4.read_unread _)) (readAt_whole _ off2 _ _ (harg5.read_unread _)) (readCov_whole _ off2 _ (congrArg k0_pay4 (readAt_whole _ off2 _ _ (harg1.read_unread _))))) (readAt_whole _ off2 _ _ (harg3.read_unread _)) (readAt_whole _ off2 _ _ (harg2.read_unread _)))
  isplitl [H6]
  · iexists _; isplitr; · ipureintro; exact harg7.read_unread _
    iexact H6
  isplitl [H7]
  · iexists _; isplitr
    swap; · iexact H7
    ipureintro
    exact (View.read_writes_eq_canon _ _ _ (cover0_s0 _)).trans ((View.canon_unit_zero off2 _ _).trans (congrArg k0_pay4 (readAt_whole _ off2 _ _ (harg1.read_unread _))))
  iexists _; isplitr
  swap; · iexact H8
  ipureintro
  exact (View.read_writes_eq_canon _ _ _ (cover0_s1 _ _)).trans ((View.canon_cons_unit_zero off2 _ _ _).trans (run_eq (halfWord i) (congr3 k0_pay6 (readAt_whole _ off2 _ _ (harg4.read_unread _)) (readAt_whole _ off2 _ _ (harg5.read_unread _)) (readCov_whole _ off2 _ (congrArg k0_pay4 (readAt_whole _ off2 _ _ (harg1.read_unread _))))) (readAt_whole _ off2 _ _ (harg3.read_unread _)) (readAt_whole _ off2 _ _ (harg2.read_unread _)) (readCov_whole _ off2 _ rfl)))

set_option maxHeartbeats 2000000 in
/-- The first call's body at a point that is neither the first nor the last. -/
theorem sound_mid0 (c : Dev nD) (E : Set ℕ) (i : grid0.Coords) (arg1 : Memref sig .tc .vmem S1536x3584 .fp8e5m2) (harg1 : arg1.IsWhole) (arg2 : Memref sig .tc .vmem S1536x1 .f32) (harg2 : arg2.IsWhole) (arg3 : Memref sig .tc .vmem S1536x128 .i8) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S1536x512 .f32) (harg6 : arg6.IsWhole) (arg7 : Memref sig .tc .vmem S1536x1 .f32) (harg7 : arg7.IsWhole) (arg8 : Memref sig .tc .vmem S1536x3584 .bf16) (harg8 : arg8.IsWhole) (arg9 : Memref sig .tc .vmem S1536x128 .f32) (harg9 : arg9.IsWhole) (hc0 : ¬ first0 i) (hc2 : ¬ k0_cond2 i = 1#1)
    (x0 : Vec F S1536x3584 .fp8e5m2) (x1 : Vec F S1536x1 .f32) (x2 : Vec F S1536x128 .i8) (x3 : Vec F S512x3584 .fp8e4m3) (x4 : Vec F S1x3584 .f32) (s0 : Vec F S1536x3584 .bf16) (s1 : Vec F S1536x128 .f32) (x6 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhOut (k0_pay6 x3 x4 s0) x2 (halfWord i) x1) ∗ owns (c : Thread nD τ) arg7 fullShare x6 ∗ owns (c : Thread nD τ) arg8 fullShare s0 ∗ owns (c : Thread nD τ) arg9 fullShare (runOut (k0_pay6 x3 x4 s0) x2 (halfWord i) x1 s1)) -∗ K ⟨⟩))
      ⊢ wp frame (wpE (defs₀ (F := F)) Variants.none c none) E (cc0_dh i arg1 harg1 arg2 harg2 arg3 harg3 arg4 harg4 arg5 harg5 arg6 harg6 arg7 harg7 arg8 harg8 arg9 harg9) K := by
  simp only [cc0_dh_eq_skeleton]; unfold cc0_dh_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg7.eq_unread hf6
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_eq_canon _ _ _ (cover0_5 _ _ _ _)).trans (dh_canon (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)))
  isplitl [H6]
  · iexists _; isplitr; · ipureintro; exact harg7.read_unread _
    iexact H6
  isplitl [H7]
  · iexists _; isplitr; · ipureintro; exact harg8.read_unread _
    iexact H7
  iexists _; isplitr
  swap; · iexact H8
  ipureintro
  exact (View.read_writes_eq_canon _ _ _ (cover0_s1 _ _)).trans ((View.canon_cons_unit_zero off2 _ _ _).trans (run_eq (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)) (readAt_whole _ off2 _ _ (harg9.read_unread _))))

set_option maxHeartbeats 2000000 in
/-- The first call's body at its last point, where it also stores the row maxima. -/
theorem sound_last0 (c : Dev nD) (E : Set ℕ) (i : grid0.Coords) (arg1 : Memref sig .tc .vmem S1536x3584 .fp8e5m2) (harg1 : arg1.IsWhole) (arg2 : Memref sig .tc .vmem S1536x1 .f32) (harg2 : arg2.IsWhole) (arg3 : Memref sig .tc .vmem S1536x128 .i8) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S1536x512 .f32) (harg6 : arg6.IsWhole) (arg7 : Memref sig .tc .vmem S1536x1 .f32) (harg7 : arg7.IsWhole) (arg8 : Memref sig .tc .vmem S1536x3584 .bf16) (harg8 : arg8.IsWhole) (arg9 : Memref sig .tc .vmem S1536x128 .f32) (harg9 : arg9.IsWhole) (hc0 : ¬ first0 i) (hc2 : k0_cond2 i = 1#1)
    (x0 : Vec F S1536x3584 .fp8e5m2) (x1 : Vec F S1536x1 .f32) (x2 : Vec F S1536x128 .i8) (x3 : Vec F S512x3584 .fp8e4m3) (x4 : Vec F S1x3584 .f32) (s0 : Vec F S1536x3584 .bf16) (s1 : Vec F S1536x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhOut (k0_pay6 x3 x4 s0) x2 (halfWord i) x1) ∗ owns (c : Thread nD τ) arg7 fullShare (k0_pay3 (runOut (k0_pay6 x3 x4 s0) x2 (halfWord i) x1 s1)) ∗ owns (c : Thread nD τ) arg8 fullShare s0 ∗ owns (c : Thread nD τ) arg9 fullShare (runOut (k0_pay6 x3 x4 s0) x2 (halfWord i) x1 s1)) -∗ K ⟨⟩))
      ⊢ wp frame (wpE (defs₀ (F := F)) Variants.none c none) E (cc0_dh i arg1 harg1 arg2 harg2 arg3 harg3 arg4 harg4 arg5 harg5 arg6 harg6 arg7 harg7 arg8 harg8 arg9 harg9) K := by
  simp only [cc0_dh_eq_skeleton]; unfold cc0_dh_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_eq_canon _ _ _ (cover0_5 _ _ _ _)).trans (dh_canon (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)))
  isplitl [H6]
  · iexists _; isplitr
    swap; · iexact H6
    ipureintro
    exact (View.read_writes_eq_canon _ _ _ (cover0_6 _)).trans ((View.canon_unit_zero off2 _ _).trans (congrArg k0_pay3 (readCov_whole _ off2 _ (run_eq (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)) (readAt_whole _ off2 _ _ (harg9.read_unread _))))))
  isplitl [H7]
  · iexists _; isplitr; · ipureintro; exact harg8.read_unread _
    iexact H7
  iexists _; isplitr
  swap; · iexact H8
  ipureintro
  exact (View.read_writes_eq_canon _ _ _ (cover0_s1 _ _)).trans ((View.canon_cons_unit_zero off2 _ _ _).trans (run_eq (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)) (readAt_whole _ off2 _ _ (harg9.read_unread _))))
/-! ## Which points are which -/

theorem N0 : cfg0.N = 37 := N_0
theorem first0_iff : ∀ t : Fin cfg0.N, first0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [first0, e0]
    word_cmp
   : ∀ t : Fin grid0.N, first0 (grid0.coords t) ↔ t.val % 37 = 0)
theorem last0_iff : ∀ t : Fin cfg0.N, k0_cond2 (grid0.coords t) = 1#1 ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [k0_cond2, e0]
    word_cmp
   : ∀ t : Fin grid0.N, k0_cond2 (grid0.coords t) = 1#1 ↔ t.val % 37 = 36)

/-- Even points read the first half of the mask block they stage, odd points the second. -/
theorem halfWord_eq : ∀ t : Fin grid0.N, halfWord (grid0.coords t) = BitVec.ofNat 32 (t.val % 2 * 64) := by decide +kernel
theorem halfWord_or (t : Fin cfg0.N) : halfWord (grid0.coords t) = 0#32 ∨ halfWord (grid0.coords t) = 64#32 := by
  rw [halfWord_eq t]
  rcases Nat.mod_two_eq_zero_or_one t.val with h | h <;> rw [h]
  · exact Or.inl rfl
  · exact Or.inr rfl
/-- The half a point reads lies inside the array, also in the array's last block, of which only 64 lanes are there. -/
theorem half_inside : ∀ t : Fin grid0.N, (win0_2.xsize (grid0.coords t) 0 = 1536) ∧ (halfWord (grid0.coords t)).toNat + 64 ≤ win0_2.xsize (grid0.coords t) 1 := by decide +kernel

/-! ## The mask's lanes a point does not read do not matter -/

theorem keep_congr {m m' : IVec S1536x128 8} {n h : BitVec 32} (hn : n = 0#32 ∨ n = 16#32 ∨ n = 32#32 ∨ n = 48#32) (hh : h = 0#32 ∨ h = 64#32)
    (hm : ∀ (r : Fin 1536) (l : Fin 128), h.toNat ≤ l.val → l.val < h.toNat + 64 → m (ix2 r l) = m' (ix2 r l)) : keep m n h = keep m' n h := by
  funext j
  obtain ⟨r, l, rfl⟩ : ∃ (r : Fin 1536) (l : Fin 128), j = ix2 r l := ⟨j 0, j 1, by funext a; fin_cases a <;> rfl⟩
  rw [keep_apply m n h hn hh r l, keep_apply m' n h hn hh r l, hm r _ (by show h.toNat ≤ h.toNat + n.toNat + l.val / 8; omega) (by
    have h8 : l.val / 8 < 16 := by have := l.isLt; omega
    have hn' : n.toNat ≤ 48 := by rcases hn with e | e | e | e <;> rw [e] <;> decide
    show h.toNat + n.toNat + l.val / 8 < h.toNat + 64; omega)]

section
variable {g : FVec F S1536x512 .f32} {m m' : IVec S1536x128 8} {h : BitVec 32} {s : Vec F S1536x1 .f32} (hh : h = 0#32 ∨ h = 64#32)
  (hm : ∀ (r : Fin 1536) (l : Fin 128), h.toNat ≤ l.val → l.val < h.toNat + 64 → m (ix2 r l) = m' (ix2 r l))
include hh hm
theorem tile0_congr : tile0 g m h s = tile0 g m' h s := by unfold tile0 tile; rw [keep_congr (by decide) hh hm]
theorem tile1_congr : tile1 g m h s = tile1 g m' h s := by unfold tile1 tile; rw [keep_congr (by decide) hh hm]
theorem tile2_congr : tile2 g m h s = tile2 g m' h s := by unfold tile2 tile; rw [keep_congr (by decide) hh hm]
theorem tile3_congr : tile3 g m h s = tile3 g m' h s := by unfold tile3 tile; rw [keep_congr (by decide) hh hm]
theorem dhOut_congr : dhOut g m h s = dhOut g m' h s := by
  unfold dhOut; rw [tile0_congr hh hm, tile1_congr hh hm, tile2_congr hh hm, tile3_congr hh hm]
theorem runOut_congr (run : Vec F S1536x128 .f32) : runOut g m h s run = runOut g m' h s run := by
  unfold runOut; rw [tile0_congr hh hm, tile1_congr hh hm, tile2_congr hh hm, tile3_congr hh hm]
end

/-! ## The proof data of the first call -/

variable (V : (c : Dev nD) → (b : Ref sig .tc) → Buf (Elt F) ((c : Thread nD τ).loc b))

/-- The block window `w` of call 0 stages at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0 holds its block at every point, for proof data that leave it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0 holds its block at every point, for proof data that leave it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of call 0 holds its block at every point, for proof data that leave it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of call 0 holds its block at every point, for proof data that leave it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev p0 : Fin cfg0.N := ⟨0, by rw [N0]; decide⟩
/-- What the first scratch buffer holds from the first point on. -/
def dyb (c : Dev nD) : Vec F S1536x3584 .bf16 := k0_pay4 (iblk0 V c 0 p0)
/-- The mask block of a point, zero past the array's end. -/
def mblk (c : Dev nD) (t : Fin cfg0.N) : Vec F S1536x128 .i8 := win0_2.fill (grid0.coords t) (fun _ => (0#8 : BitVec 8)) (iblk0 V c 2 t)
/-- The product before scaling and masking, one block of 512 columns. -/
def prod (c : Dev nD) (t : Fin cfg0.N) : Vec F S1536x512 .f32 := k0_pay6 (iblk0 V c 3 t) (iblk0 V c 4 t) (dyb V c)
/-- The block point `t` stores. -/
def dhAt (c : Dev nD) (t : Fin cfg0.N) : Vec F S1536x512 .f32 := dhOut (prod V c t) (mblk V c t) (halfWord (grid0.coords t)) (iblk0 V c 1 t)
/-- The running maximum after `n` points. -/
def runAt (c : Dev nD) : ℕ → Vec F S1536x128 .f32
  | 0 => k0_pay5
  | n + 1 => if hn : n < cfg0.N then
      runOut (prod V c ⟨n, hn⟩) (mblk V c ⟨n, hn⟩) (halfWord (grid0.coords ⟨n, hn⟩)) (iblk0 V c 1 ⟨n, hn⟩) (runAt c n) else runAt c n
theorem runAt_succ (c : Dev nD) (t : Fin cfg0.N) : runAt V c (t.val + 1)
    = runOut (prod V c t) (mblk V c t) (halfWord (grid0.coords t)) (iblk0 V c 1 t) (runAt V c t.val) := by
  show (if hn : t.val < cfg0.N then _ else _) = _
  rw [dif_pos t.isLt]

/-- The call's scratch memory and its generator, before the first point and after each point. -/
def Phi0 (c : Dev nD) : (n : ℕ) → sProp 𝕄
  | 0 => Pipeline.ΦA spec0 c
  | n + 1 => iprop(iprop(iprop(owns (c : Thread nD τ) (Memref.whole cc0_scratch0 : Memref sig .tc .vmem S1536x3584 .bf16) fullShare (dyb V c)
      ∗ owns (c : Thread nD τ) (Memref.whole cc0_scratch1 : Memref sig .tc .vmem S1536x128 .f32) fullShare (runAt V c (n + 1)))
      ∗ Pipeline.scopedRestBut (Val := Elt F) (Ix := Unit) (Name := ℕ) (U := UR sig nD τ) (Lvl := ℕ) spec0 c [cc0_scratch0, cc0_scratch1]) ∗ (∃ r, prngReg c r))

theorem PhiA0_eq (c : Dev nD) : (Pipeline.ΦA spec0 c : sProp 𝕄)
    = iprop(iprop(iprop((∃ d, owns (c : Thread nD τ) (Memref.whole cc0_scratch0 : Memref sig .tc .vmem S1536x3584 .bf16) fullShare d)
      ∗ (∃ d, owns (c : Thread nD τ) (Memref.whole cc0_scratch1 : Memref sig .tc .vmem S1536x128 .f32) fullShare d))
      ∗ Pipeline.scopedRestBut (Val := Elt F) (Ix := Unit) (Name := ℕ) (U := UR sig nD τ) (Lvl := ℕ) spec0 c [cc0_scratch0, cc0_scratch1]) ∗ (∃ r, prngReg c r)) := by
  unfold Pipeline.ΦA; rw [scopedRest0_split]; simp only [owns_whole]; try rfl

/-- The first call's proof data, over the arrays as the call finds them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => mblk V c t
    | ⟨3, _⟩ => iblk0 V c 3 t
    | ⟨4, _⟩ => iblk0 V c 4 t
    | ⟨5, _⟩ => dhAt V c t
    | ⟨6, _⟩ => k0_pay3 (runAt V c 37)
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = mblk V c t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = dhAt V c t := by dsimp only [dat0]
theorem after0_6 (c : Dev nD) (t : Fin cfg0.N) : (dat0 V c).after 6 t = k0_pay3 (runAt V c 37) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The mask block is staged every second point; a point finds the array's block there, and something past the array's end. -/
theorem before0_2 (c : Dev nD) (t : Fin cfg0.N) (d) : ∃ e, (dat0 V c).before 2 t d = win0_2.fill (grid0.coords t) e (iblk0 V c 2 t) := by
  cases hf : (cfg0.win 2).fetch t with
  | true =>
    refine ⟨d, ?_⟩
    unfold Dat.before; rw [hf, if_pos rfl]
    unfold Dat.fetched Dat.blockOf iblk0; rw [A_eq0 V c 2]; try rfl
  | false =>
    have hidx : t.val ≠ 0 ∧ ∀ h : 0 < t.val, (cfg0.win 2).index t = (cfg0.win 2).index ⟨t.val - 1, Nat.lt_of_le_of_lt (Nat.sub_le _ _) t.isLt⟩ := by
      have h2 : (!(cfg0.win 2).isOut && (decide (t.val = 0) || decide (∃ h : 0 < t.val, (cfg0.win 2).index t ≠ (cfg0.win 2).index ⟨t.val - 1, Nat.lt_of_le_of_lt (Nat.sub_le _ _) t.isLt⟩))) = false := hf
      rw [show (cfg0.win 2).isOut = false from rfl, Bool.not_false, Bool.true_and, Bool.or_eq_false_iff] at h2
      refine ⟨of_decide_eq_false h2.1, fun h => ?_⟩
      by_contra hne
      exact of_decide_eq_false h2.2 ⟨h, hne⟩
    have hlt : t.val - 1 < cfg0.N := Nat.lt_of_le_of_lt (Nat.sub_le _ _) t.isLt
    have hi := hidx.2 (Nat.pos_of_ne_zero hidx.1)
    refine ⟨d, ?_⟩
    rw [(dat0 V c).before_of_pos 2 t hidx.1 hf d, show (cfg0.win 2).flush ⟨t.val - 1, hlt⟩ = false from rfl, if_neg Bool.false_ne_true]
    unfold Dat.left
    rw [show cfg0.idle 2 (cfg0.grid.coords ⟨t.val - 1, hlt⟩) = false from rfl]
    show (dat0 V c).kept 2 ⟨t.val - 1, hlt⟩ d = _
    unfold Dat.kept
    rw [after0_2]; unfold mblk
    have hcf : (cfg0.win 2).cut (cfg0.grid.coords ⟨t.val - 1, hlt⟩) (win0_2.fill (grid0.coords ⟨t.val - 1, hlt⟩) (fun _ => (0#8 : BitVec 8)) (iblk0 V c 2 ⟨t.val - 1, hlt⟩)) = iblk0 V c 2 ⟨t.val - 1, hlt⟩ := win0_2.cut_fill _ _ _
    rw [hcf]
    have key := (dat0 V c).fetched_congr 2 (t := ⟨t.val - 1, hlt⟩) (t' := t) hi.symm (by
      funext a
      have := congrFun hi.symm a
      show Pipeline.Clip.of (cc0_transform_2 (grid0.coords ⟨t.val - 1, hlt⟩) a) _ _ = Pipeline.Clip.of (cc0_transform_2 (grid0.coords t) a) _ _
      rw [show cc0_transform_2 (grid0.coords ⟨t.val - 1, hlt⟩) a = cc0_transform_2 (grid0.coords t) a from this]) d
    unfold Dat.fetched Dat.blockOf at key
    rw [A_eq0 V c 2] at key
    exact key

theorem mblk_agree (c : Dev nD) (t : Fin cfg0.N) (e : S1536x128.Idx → BitVec 8) (r : Fin 1536) (l : Fin 128) (h0 : (halfWord (grid0.coords t)).toNat ≤ l.val)
    (h1 : l.val < (halfWord (grid0.coords t)).toNat + 64) :
    (win0_2.fill (grid0.coords t) e (iblk0 V c 2 t) : S1536x128.Idx → BitVec 8) (ix2 r l) = mblk V c t (ix2 r l) := by
  have hm : win0_2.moved (grid0.coords t) (ix2 r l) = true := (win0_2.moved_iff _ _).mpr (by
    have hi := half_inside t
    intro a
    match a with
    | ⟨0, _⟩ => exact lt_of_lt_of_eq r.isLt hi.1.symm
    | ⟨1, _⟩ => exact lt_of_lt_of_le h1 hi.2)
  unfold mblk Window.fill
  rw [dif_pos hm, dif_pos hm]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leaves 2 t
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leaves 6 t)

theorem Phi0_cast (c : Dev nD) (t : Fin cfg0.N) : (dat0 V c).Φ t.castSucc = Phi0 V c t.val := by
  dsimp only [dat0]; exact Pipeline.Dat.Φ_castSucc (fun n _ => Phi0 V c n) t

/-- The mask's buffer may be left with anything past the array's end. -/
theorem leaves0_2 (c : Dev nD) (t : Fin cfg0.N) : (dat0 V c).leaves 2 t
    = iprop(∃ d, owns (c : Thread nD τ) (st0_2 t) fullShare (win0_2.fill (grid0.coords t) d (iblk0 V c 2 t))) := by
  have h : (dat0 V c).leaves 2 t = iprop(∃ d, owns (c : Thread nD τ) (st0_2 t) fullShare ((cfg0.win 2).fill (cfg0.grid.coords t) d ((cfg0.win 2).cut (cfg0.grid.coords t) ((dat0 V c).after 2 t)))) := rfl
  have hcf : (cfg0.win 2).cut (cfg0.grid.coords t) (mblk V c t) = iblk0 V c 2 t := win0_2.cut_fill _ _ _
  rw [h, after0_2, hcf]; try rfl

theorem leaves0_6_idle (c : Dev nD) (t : Fin cfg0.N) (ht : t.val ≠ 36) : (dat0 V c).leaves 6 t
    = iprop(∃ d, owns (c : Thread nD τ) (st0_6 t) fullShare ((dat0 V c).before 6 t d)) := by
  have hN : t.val < 37 := lt_of_lt_of_eq t.isLt N0
  refine (dat0 V c).leaves_idle 6 t ?_ ?_
  · have h : ¬ k0_cond2 (grid0.coords t) = 1#1 := fun h => ht (by have := (last0_iff t).mp h; omega)
    show (!(k0_cond2 (grid0.coords t) == 1#1)) = true
    rw [Bool.not_eq_true', beq_eq_false_iff_ne]; exact h
  · rw [← Bool.not_eq_true]; exact fun h => ht (by have := (flush0_6 t).mp h; omega)

theorem leaves0_6_last (c : Dev nD) (t : Fin cfg0.N) (ht : t.val = 36) : (dat0 V c).leaves 6 t
    = owns (c : Thread nD τ) (st0_6 t) fullShare ((dat0 V c).after 6 t) := by
  have h : k0_cond2 (grid0.coords t) = 1#1 := (last0_iff t).mpr (by omega)
  have hi : cfg0.idle 6 (cfg0.grid.coords t) = false := by
    show (!(k0_cond2 (grid0.coords t) == 1#1)) = false
    rw [h, beq_self_eq_true, Bool.not_true]
  unfold Dat.leaves; rw [hi]

set_option maxHeartbeats 1000000 in
/-- The body at any point, by the three triples above. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_3, before0_4]
  rw [show (dat0 V c).owesAt () t.succ = (dat0 V c).owesAt () t.castSucc from rfl,
    after0_0, after0_1, after0_3, after0_4, after0_5, leaves0_2]
  rw [show (dat0 V c).Φ t.succ = Phi0 V c (t.val + 1) from rfl, Phi0_cast]
  have hN : t.val < 37 := lt_of_lt_of_eq t.isLt N0
  have hdh : ∀ e : S1536x128.Idx → BitVec 8, dhOut (k0_pay6 (iblk0 V c 3 t) (iblk0 V c 4 t) (dyb V c)) (win0_2.fill (grid0.coords t) e (iblk0 V c 2 t)) (halfWord (grid0.coords t)) (iblk0 V c 1 t) = dhAt V c t :=
    fun e => dhOut_congr (halfWord_or t) (mblk_agree V c t e)
  have hrun : ∀ e : S1536x128.Idx → BitVec 8, runOut (k0_pay6 (iblk0 V c 3 t) (iblk0 V c 4 t) (dyb V c)) (win0_2.fill (grid0.coords t) e (iblk0 V c 2 t)) (halfWord (grid0.coords t)) (iblk0 V c 1 t) (runAt V c t.val) = runAt V c (t.val + 1) :=
    fun e => (runOut_congr (halfWord_or t) (mblk_agree V c t e) _).trans (runAt_succ V c t).symm
  by_cases h0 : t.val = 0
  · have hf : first0 (grid0.coords t) := (first0_iff t).mpr (by omega)
    have hl : ¬ k0_cond2 (grid0.coords t) = 1#1 := fun h => by have := (last0_iff t).mp h; omega
    have ht : t = p0 := Fin.ext h0
    have hdy : k0_pay4 (iblk0 V c 0 t) = dyb V c := by unfold dyb; rw [ht]
    have hrun : ∀ e : S1536x128.Idx → BitVec 8, runOut (k0_pay6 (iblk0 V c 3 t) (iblk0 V c 4 t) (dyb V c)) (win0_2.fill (grid0.coords t) e (iblk0 V c 2 t)) (halfWord (grid0.coords t)) (iblk0 V c 1 t) k0_pay5 = runAt V c (t.val + 1) :=
      fun e => by rw [← hrun e, h0]; rfl
    rw [leaves0_6_idle V c t (by omega), show Phi0 V c t.val = Pipeline.ΦA spec0 c by rw [h0]; rfl, PhiA0_eq]
    unfold Phi0
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
    obtain ⟨e, he⟩ := before0_2 V c t d2
    rw [he]
    have hdh := hdh e
    have hrun := hrun e
    iapply (sound_first0 c Set.univ (grid0.coords t) _ _ _ _ _ _ _ _ _ _ _ _ _ _ _ _ _ _ hf hl (iblk0 V c 0 t) (iblk0 V c 1 t) (win0_2.fill (grid0.coords t) e (iblk0 V c 2 t)) (iblk0 V c 3 t) (iblk0 V c 4 t) ((dat0 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    rw [hdy, hdh, hrun]
    iintro ⟨H0, H1, H2, H3, H4, H5, H6, HS0, HS1⟩
    isplitl [HS0 HS1 HB Hg]
    · isplitl [HS0 HS1 HB]
      · isplitl [HS0 HS1]
        · isplitl [HS0]
          · iexact HS0
          iexact HS1
        iexact HB
      iexact Hg
    isplitl [Ho]; · iexact Ho
    isplitl [H0]; · iexact H0
    isplitl [H1]; · iexact H1
    isplitl [H2]; · iexists _; iexact H2
    isplitl [H3]; · iexact H3
    isplitl [H4]; · iexact H4
    isplitl [H5]; · iexact H5
    iexists _; iexact H6
  · have hf : ¬ first0 (grid0.coords t) := fun h => h0 (by have := (first0_iff t).mp h; omega)
    have hPhi : Phi0 V c t.val = iprop(iprop(iprop(owns (c : Thread nD τ) (Memref.whole cc0_scratch0 : Memref sig .tc .vmem S1536x3584 .bf16) fullShare (dyb V c)
      ∗ owns (c : Thread nD τ) (Memref.whole cc0_scratch1 : Memref sig .tc .vmem S1536x128 .f32) fullShare (runAt V c t.val))
      ∗ Pipeline.scopedRestBut (Val := Elt F) (Ix := Unit) (Name := ℕ) (U := UR sig nD τ) (Lvl := ℕ) spec0 c [cc0_scratch0, cc0_scratch1]) ∗ (∃ r, prngReg c r)) := by
      obtain ⟨n, hn⟩ : ∃ n, t.val = n + 1 := ⟨t.val - 1, by omega⟩
      rw [hn]; rfl
    rw [hPhi]
    by_cases h36 : t.val = 36
    · have hl : k0_cond2 (grid0.coords t) = 1#1 := (last0_iff t).mpr (by omega)
      rw [leaves0_6_last V c t h36, after0_6, show runAt V c 37 = runAt V c (t.val + 1) by rw [h36]]
      unfold Phi0
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
      obtain ⟨e, he⟩ := before0_2 V c t d2
      rw [he]
      have hdh := hdh e
      have hrun := hrun e
      iapply (sound_last0 c Set.univ (grid0.coords t) _ _ _ _ _ _ _ _ _ _ _ _ _ _ _ _ _ _ hf hl (iblk0 V c 0 t) (iblk0 V c 1 t) (win0_2.fill (grid0.coords t) e (iblk0 V c 2 t)) (iblk0 V c 3 t) (iblk0 V c 4 t) (dyb V c) (runAt V c t.val) _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      rw [hdh, hrun]
      iintro ⟨H0, H1, H2, H3, H4, H5, H6, HS0, HS1⟩
      isplitl [HS0 HS1 HB Hg]
      · isplitl [HS0 HS1 HB]
        · isplitl [HS0 HS1]
          · isplitl [HS0]
            · iexact HS0
            iexact HS1
          iexact HB
        iexact Hg
      isplitl [Ho]; · iexact Ho
      isplitl [H0]; · iexact H0
      isplitl [H1]; · iexact H1
      isplitl [H2]; · iexists _; iexact H2
      isplitl [H3]; · iexact H3
      isplitl [H4]; · iexact H4
      isplitl [H5]; · iexact H5
      iexact H6
    · have hl : ¬ k0_cond2 (grid0.coords t) = 1#1 := fun h => h36 (by have := (last0_iff t).mp h; omega)
      rw [leaves0_6_idle V c t h36]
      unfold Phi0
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
      obtain ⟨e, he⟩ := before0_2 V c t d2
      rw [he]
      have hdh := hdh e
      have hrun := hrun e
      iapply (sound_mid0 c Set.univ (grid0.coords t) _ _ _ _ _ _ _ _ _ _ _ _ _ _ _ _ _ _ hf hl (iblk0 V c 0 t) (iblk0 V c 1 t) (win0_2.fill (grid0.coords t) e (iblk0 V c 2 t)) (iblk0 V c 3 t) (iblk0 V c 4 t) (dyb V c) (runAt V c t.val) ((dat0 V c).before 6 t d6) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      rw [hdh, hrun]
      iintro ⟨H0, H1, H2, H3, H4, H5, H6, HS0, HS1⟩
      isplitl [HS0 HS1 HB Hg]
      · isplitl [HS0 HS1 HB]
        · isplitl [HS0 HS1]
          · isplitl [HS0]
            · iexact HS0
            iexact HS1
          iexact HB
        iexact Hg
      isplitl [Ho]; · iexact Ho
      isplitl [H0]; · iexact H0
      isplitl [H1]; · iexact H1
      isplitl [H2]; · iexists _; iexact H2
      isplitl [H3]; · iexact H3
      isplitl [H4]; · iexact H4
      isplitl [H5]; · iexact H5
      iexists _; iexact H6

theorem defs₀_row0 (t : Fin cfg0.N) :
    defs₀ (F := F) .tc cfg0.body (cfg0.bodyArgs t (cfg0.slots t)) = bodyAt0 t := by
  unfold defs₀; rw [Defs.onTc_tc]

/-- The body obligation of the first call. -/
theorem body_obligation0 (c : Dev nD) : BodyObligationLoose (dat0 (F := F) V c) (defs₀ (F := F)) Variants.none () Set.univ := fun t => by
  rw [bigSep_W0, bigSep_W0, defs₀_row0]
  exact triple_restated (sound_body0 V c t) rfl .rfl fun _ => .rfl

/-- After the last point the scratch contents are forgotten. -/
theorem Phi0_out (c : Dev nD) : (dat0 V c).Φ (Fin.last cfg0.N) ⊢ Pipeline.ΦA spec0 c := by
  have e : (dat0 V c).Φ (Fin.last cfg0.N) = Phi0 V c (36 + 1) := by
    show Phi0 V c (Fin.last cfg0.N).val = _
    rw [Fin.val_last, N0]
  rw [e, PhiA0_eq]
  unfold Phi0
  iintro ⟨⟨⟨HS0, HS1⟩, HB⟩, Hg⟩
  isplitl [HS0 HS1 HB]
  · isplitl [HS0 HS1]
    · isplitl [HS0]
      · iexists _; iexact HS0
      iexists _; iexact HS1
    iexact HB
  iexact Hg

end Cert.KernelIdeal.Whole

end
-- ==== Proof.Run.lean ====
module

public import proofs.«01_k».proof.Proof.Dh
public import proofs.«01_k».proof.Proof.Dw
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-! ## The buffers at each boundary of the program -/

/-- Core `c`'s buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev V1 : (c : Dev nD) → (b : Ref sig .tc) → Buf (Elt F) ((c : Thread nD τ).loc b) := fun c b => W1 m c b

/-- After call 0: its arrays as its write-backs leave them, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is no output array of call 0 keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After call 1: its arrays as its write-backs leave them, every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is no output array of call 1 keeps its contents across it. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After `hostOps2`. -/
abbrev W4 : Dev nD → Valuation τ sig (Elt F) := fun c => StableHlo.after hostOps2 (W3 m c)
theorem W4_of (c : Dev nD) (r : Ref sig .tc) (h : r ∉ hostOps2_W) : W4 m c (Proc.devRef .tc r) = W3 m c (Proc.devRef .tc r) :=
  StableHlo.after_of_writes_sub hostOps2 _ hostOps2_writes h
theorem W4_args (c : Dev nD) : ∀ a ∈ argRefs, W4 m c (Proc.devRef .tc a) = m ((c : Thread nD τ).loc a) :=
  fun a ha => (W4_of m c a (hostOps2_args a ha)).trans (W3_args m c a ha)
abbrev V4 : (c : Dev nD) → (b : Ref sig .tc) → Buf (Elt F) ((c : Thread nD τ).loc b) := fun c b => W4 m c b

/-- After call 2: its arrays as its write-backs leave them, every other buffer as before. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- A reference that is no output array of call 2 keeps its contents across it. -/
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (V4 m) c).arrAt_in w (h w rfl) _).trans (A_eq2 (V4 m) c w))
  · exact W5_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m c (Proc.devRef .tc a) = m ((c : Thread nD τ).loc a) :=
  fun a ha => (W5_of m c a (argsIn2 a ha)).trans (W4_args m c a ha)
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The results, each as the call that stores it leaves it -/

theorem W5_main_v9_0 (c : Dev nD) : W5 m c (Proc.devRef .tc main_v9_0) = (dat2 (V4 m) c).arrAt 4 cfg2.N := W5_arr m c 4
theorem W5_main_v9_1 (c : Dev nD) : W5 m c (Proc.devRef .tc main_v9_1) = (dat2 (V4 m) c).arrAt 5 cfg2.N := W5_arr m c 5
theorem W3_main_v7_0 (c : Dev nD) : W3 m c (Proc.devRef .tc main_v7_0) = (dat1 (V2 m) c).arrAt 6 cfg1.N := W3_arr m c 6
theorem W3_main_v7_1 (c : Dev nD) : W3 m c (Proc.devRef .tc main_v7_1) = (dat1 (V2 m) c).arrAt 7 cfg1.N := W3_arr m c 7
theorem W4_main_v7_0 (c : Dev nD) : W4 m c (Proc.devRef .tc main_v7_0) = (dat1 (V2 m) c).arrAt 6 cfg1.N :=
  (W4_of m c main_v7_0 (by decide)).trans (W3_main_v7_0 m c)
theorem W4_main_v7_1 (c : Dev nD) : W4 m c (Proc.devRef .tc main_v7_1) = (dat1 (V2 m) c).arrAt 7 cfg1.N :=
  (W4_of m c main_v7_1 (by decide)).trans (W3_main_v7_1 m c)
theorem W5_main_v7_0 (c : Dev nD) : W5 m c (Proc.devRef .tc main_v7_0) = (dat1 (V2 m) c).arrAt 6 cfg1.N :=
  (W5_of m c main_v7_0 (by decide)).trans (W4_main_v7_0 m c)
theorem W5_main_v7_1 (c : Dev nD) : W5 m c (Proc.devRef .tc main_v7_1) = (dat1 (V2 m) c).arrAt 7 cfg1.N :=
  (W5_of m c main_v7_1 (by decide)).trans (W4_main_v7_1 m c)
theorem W2_main_v6_0 (c : Dev nD) : W2 m c (Proc.devRef .tc main_v6_0) = (dat0 (V1 m) c).arrAt 5 cfg0.N := W2_arr m c 5
theorem W2_main_v6_1 (c : Dev nD) : W2 m c (Proc.devRef .tc main_v6_1) = (dat0 (V1 m) c).arrAt 6 cfg0.N := W2_arr m c 6
theorem W4_main_v6_1 (c : Dev nD) : W4 m c (Proc.devRef .tc main_v6_1) = (dat0 (V1 m) c).arrAt 6 cfg0.N :=
  (W4_of m c main_v6_1 (by decide)).trans ((W3_of m c main_v6_1 (by decide)).trans (W2_main_v6_1 m c))

/-! ## The proof data family and the thread state -/

abbrev adm : (p : Fin 3) → (pcfgs (F := F) p).Adm := fun p => (cfgs p).toPCfg_adm
/-- Every call's proof data, each at the contents it is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- Call 0, entered with every buffer at `W1` and left with every buffer at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_out (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, entered with every buffer at `W2` and left with every buffer at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2, entered with every buffer at `W4` and left with every buffer at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) (A_eq2 (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- The run of the whole program: every fair execution ends, nothing faulting; the argument arrays are as launched, the
    four results as the calls' write-backs leave them, and every semaphore counter is zero. -/
theorem run : θ_run defs (onTc (τ := τ) (main (F := F))) ⟨m, fun _ => 0, ρ⟩ (fun r => (∀ c : Dev nD,
      (r.2.mem ((c.tc : Thread nD τ).loc main_v9_0) = (dat2 (V4 m) c).arrAt 4 cfg2.N
      ∧ r.2.mem ((c.tc : Thread nD τ).loc main_v7_0) = (dat1 (V2 m) c).arrAt 6 cfg1.N
      ∧ r.2.mem ((c.tc : Thread nD τ).loc main_v7_1) = (dat1 (V2 m) c).arrAt 7 cfg1.N
      ∧ r.2.mem ((c.tc : Thread nD τ).loc main_v9_1) = (dat2 (V4 m) c).arrAt 5 cfg2.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨(fun c =>
      ⟨⟨(h c _ (mem_uc main_v9_0 (by decide))).trans (W5_main_v9_0 m c),
        (h c _ (mem_uc main_v7_0 (by decide))).trans (W5_main_v7_0 m c),
        (h c _ (mem_uc main_v7_1 (by decide))).trans (W5_main_v7_1 m c),
        (h c _ (mem_uc main_v9_1 (by decide))).trans (W5_main_v9_1 m c)⟩,
       (h c _ (mem_uc main_arg0 (by decide))).trans (W5_args m c main_arg0 (by decide)),
       (h c _ (mem_uc main_arg1 (by decide))).trans (W5_args m c main_arg1 (by decide)),
       (h c _ (mem_uc main_arg2 (by decide))).trans (W5_args m c main_arg2 (by decide)),
       (h c _ (mem_uc main_arg3 (by decide))).trans (W5_args m c main_arg3 (by decide)),
       (h c _ (mem_uc main_arg4 (by decide))).trans (W5_args m c main_arg4 (by decide)),
       (h c _ (mem_uc main_arg5 (by decide))).trans (W5_args m c main_arg5 (by decide)),
       (h c _ (mem_uc main_arg6 (by decide))).trans (W5_args m c main_arg6 (by decide)),
       (h c _ (mem_uc main_arg7 (by decide))).trans (W5_args m c main_arg7 (by decide)),
       (h c _ (mem_uc main_arg8 (by decide))).trans (W5_args m c main_arg8 (by decide))⟩), funext fun g => hz g (.inr (no_unscoped g.2))⟩)

/-- The frame alone: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run m ρ)

end Cert.KernelIdeal.Whole

end
-- ==== Proof.Bits.Dx.lean ====
module

public import proofs.«01_k».proof.Proof.Gen.Kernel.Skeleton
public import proofs.«01_k».proof.Proof.Gen.Kernel.Launch
public import proofs.«01_k».proof.Proof.Gen.Kernel.Points
public import Idealize.ShloMosaic.Lib.Tactic
public import Idealize.ShloMosaic.Lib.WordCmp
public import Idealize.ShloMosaic.Lib.Pipeline.FrameBody
public import Idealize.ShloMosaic.Lib.Pipeline.Value

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two zero offsets, as the constant function. -/
theorem off2 : (![0, 0] : Fin 2 → Nat) = fun _ => 0 := by
  funext a; fin_cases a <;> rfl

/-- A load of a whole buffer reads what the buffer holds. -/
theorem readAt_whole {κ : Kind} {sp : Space} {S : Shape} {e : EltTy} (v : View sig κ sp S e) {off : Fin S.rank → ℕ} (h : off = fun _ => 0)
    (inb : ∀ i, (off i + S.size i) ≤ S.size i) (f : v.ty.Contents (Elt F)) {x : S.Idx → Elt F e} (hx : v.read (Elt F) f = x) :
    v.readAt (Elt F) (Rect.unit off S.size inb).toLoadRect f = x :=
  (View.ld_unit_zero h inb (v.read (Elt F) f)).trans hx

/-- A load of a whole buffer just stored reads what was stored. -/
theorem readCov_whole {κ : Kind} {sp : Space} {S : Shape} {e : EltTy} (v : View sig κ sp S e) {off : Fin S.rank → ℕ} (h : off = fun _ => 0)
    (inb : ∀ i, (off i + S.size i) ≤ S.size i) {w x : S.Idx → Elt F e} (hx : w = x) :
    v.readCov (Val := Elt F) [⟨Rect.unit off S.size inb, w⟩] (Rect.unit off S.size inb).toLoadRect = x :=
  (View.readCov_eq_canon' v _ _).trans ((View.ld_unit_zero h inb (View.canon [⟨Rect.unit off S.size inb, w⟩])).trans ((View.canon_unit_zero h inb w).trans hx))

theorem congr3 {α β γ δ : Sort _} (f : α → β → γ → δ) {a a' : α} {b b' : β} {c c' : γ} (ha : a = a') (hb : b = b') (hc : c = c') :
    f a b c = f a' b' c' := by rw [ha, hb, hc]

variable (V : (c : Dev nD) → (b : Ref sig .tc) → Buf (Elt F) ((c : Thread nD τ).loc b))

/-- The block window `w` of call 2 stages at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of call 2 holds its block at every point, for proof data that leave it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of call 2 holds its block at every point, for proof data that leave it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of call 2 holds its block at every point, for proof data that leave it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of call 2 holds its block at every point, for proof data that leave it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S768x1 := Rect.unit (s := S768x1) ![0, 0] S768x1.size inb_S768x1_S768x1_0_0
abbrev r2_1 : Rect S768x18944 := Rect.unit (s := S768x18944) ![0, 0] S768x18944.size inb_S768x18944_S768x18944_0_0
abbrev r2_2 : Rect S256x18944 := Rect.unit (s := S256x18944) ![0, 0] S256x18944.size inb_S256x18944_S256x18944_0_0
abbrev r2_3 : Rect S1x256 := Rect.unit (s := S1x256) ![0, 0] S1x256.size inb_S1x256_S1x256_0_0
abbrev r2_4 : Rect S768x256 := Rect.unit (s := S768x256) ![0, 0] S768x256.size inb_S768x256_S768x256_0_0

/-- What the third call leaves in its `dx` block, from the input blocks. -/
def out2_4 (x0 : Vec F S768x18944 .fp8e5m2) (x1 : Vec F S256x18944 .fp8e4m3) (x2 : Vec F S1x256 .f32) (x3 : Vec F S768x1 .f32) : Vec F S768x256 .bf16 := k2_pay1 (k2_pay3 x3 x0 x1) x2
/-- What the third call leaves in its scale block, from the input blocks. -/
def out2_5 (x0 : Vec F S768x18944 .fp8e5m2) (x1 : Vec F S256x18944 .fp8e4m3) (x2 : Vec F S1x256 .f32) (x3 : Vec F S768x1 .f32) : Vec F S768x1 .f32 := k2_pay2 x3

theorem canon2_4 (x0 : Vec F S768x18944 .fp8e5m2) (x1 : Vec F S256x18944 .fp8e4m3) (x2 : Vec F S1x256 .f32) (x3 : Vec F S768x1 .f32) :
    View.canon [⟨r2_4, k2_pay1 (k2_pay3 (View.ld x3 r2_0) (View.ld x0 r2_1) (View.ld x1 r2_2)) (View.ld x2 r2_3)⟩] = out2_4 x0 x1 x2 x3 := by
  rw [View.canon_unit_zero off2, View.ld_unit_zero off2, View.ld_unit_zero off2, View.ld_unit_zero off2, View.ld_unit_zero off2]; rfl
theorem canon2_5 (x0 : Vec F S768x18944 .fp8e5m2) (x1 : Vec F S256x18944 .fp8e4m3) (x2 : Vec F S1x256 .f32) (x3 : Vec F S768x1 .f32) :
    View.canon [⟨r2_0, k2_pay2 (View.ld x3 r2_0)⟩] = out2_5 x0 x1 x2 x3 := by
  rw [View.canon_unit_zero off2, View.ld_unit_zero off2]; rfl
theorem cover2_4 (p0 : Vec F S768x256 .bf16) (y : S768x256.Idx) :
    ∃ pc ∈ ([⟨r2_4, p0⟩] : List (View.Piece (Elt F) S768x256 .bf16)), y ∈ pc.1.set :=
  View.cover_of_tiled [⟨r2_4, p0⟩] S768x256.size (by rfl) y
theorem cover2_5 (p0 : Vec F S768x1 .f32) (y : S768x1.Idx) :
    ∃ pc ∈ ([⟨r2_0, p0⟩] : List (View.Piece (Elt F) S768x1 .f32)), y ∈ pc.1.set :=
  View.cover_of_tiled [⟨r2_0, p0⟩] S768x1.size (by rfl) y

set_option maxHeartbeats 1000000 in
/-- The third call's body at one grid point: the inputs stay, each output holds `out2_4`, `out2_5` of them. -/
theorem sound_kernel2 (c : Dev nD) (E : Set ℕ) (i : grid2.Coords) (arg2 : Memref sig .tc .vmem S768x18944 .fp8e5m2) (harg2 : arg2.IsWhole) (arg3 : Memref sig .tc .vmem S256x18944 .fp8e4m3) (harg3 : arg3.IsWhole) (arg4 : Memref sig .tc .vmem S1x256 .f32) (harg4 : arg4.IsWhole) (arg5 : Memref sig .tc .vmem S768x1 .f32) (harg5 : arg5.IsWhole) (arg6 : Memref sig .tc .vmem S768x256 .bf16) (harg6 : arg6.IsWhole) (arg7 : Memref sig .tc .vmem S768x1 .f32) (harg7 : arg7.IsWhole)
    (x0 : Vec F S768x18944 .fp8e5m2) (x1 : Vec F S256x18944 .fp8e4m3) (x2 : Vec F S1x256 .f32) (x3 : Vec F S768x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3) ∗ owns (c : Thread nD τ) arg7 fullShare (out2_5 x0 x1 x2 x3)) -∗ K ⟨⟩))
      ⊢ wp frame (wpE (defs₀ (F := F)) Variants.none c none) E (cc2_dx i arg2 harg2 arg3 harg3 arg4 harg4 arg5 harg5 arg6 harg6 arg7 harg7) K := by
  simp only [cc2_dx_eq_skeleton]; unfold cc2_dx_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (cover2_4 _)).trans (canon2_4 _ _ _ _)
  iexists _; isplitr
  swap; · iexact H5
  ipureintro
  exact (View.read_writes_eq_canon _ _ _ (cover2_5 _)).trans (canon2_5 (arg2.view.read (Elt F) f0) (arg3.view.read (Elt F) f1) (arg4.view.read (Elt F) f2) _)

/-- The third call's proof data, over the arrays as the call finds them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Whole

end
-- ==== Proof.Bits.Keep.lean ====
module

public import proofs.«01_k».proof.Proof.Bits.Dx
public import Idealize.ShloMosaic.Lib.BitcastFour
public import Idealize.ShloMosaic.Lib.PointwiseCore

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The lane of the mask block whose byte decides each column, as a word: the column divided by 8, plus the group's offset. -/
def laneWord (n h : BitVec 32) : IVec S384x128 32 :=
  select (cmpi .slt (addi k0_pay9 (broadcast S384x128 (Scalar.addi n h))) (broadcast S384x128 0#32))
    (addi (addi k0_pay9 (broadcast S384x128 (Scalar.addi n h))) (broadcast S384x128 128#32))
    (addi k0_pay9 (broadcast S384x128 (Scalar.addi n h)))

/-- Which elements of one group of 128 columns are kept: the mask bit of each, from the packed mask block. -/
def keep (m : IVec S1536x128 8) (n h : BitVec 32) : IVec S1536x128 1 :=
  cmpi .ne (extui 32 (bitcast S1536x128 8 (andi (dynamicGather 1
      (bitcast S384x128 32 m bitcasts_S1536x128_w8_S384x128_w32) (laneWord n h)) k0_pay8)
      bitcasts_S384x128_w32_S1536x128_w8) natLt_8_32) (broadcast S1536x128 0#32)

/-- Bit `q` of byte `(r, l)` of an array of words read as bytes. -/
theorem byte_bit (w : IVec S384x128 32) (h : S384x128.Bitcasts 32 S1536x128 8) (r : Fin 1536) (l : Fin 128) (q : ℕ) (hq : q < 8) :
    (bitcast S1536x128 8 w h (ix2 r l)).getLsbD q
      = (w (ix2 ⟨r.val / 4, by have := r.isLt; omega⟩ l)).getLsbD (8 * (r.val % 4) + q) := by
  rw [bitcast_getLsbD w h (ix2 r l) q hq (by decide)]
  have hrow : (S1536x128).row (ix2 r l) = r.val := rfl
  have e1 : ((S1536x128).row (ix2 r l) * 8 + q) / 32 = r.val / 4 := by rw [hrow]; omega
  have e2 : ((S1536x128).row (ix2 r l) * 8 + q) % 32 = 8 * (r.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem lane_value (n h : BitVec 32) (hn : n = 0#32 ∨ n = 16#32 ∨ n = 32#32 ∨ n = 48#32) (hh : h = 0#32 ∨ h = 64#32)
    (a : Fin 384) (l : Fin 128) : (laneWord n h (ix2 a l)).toNat = h.toNat + n.toNat + l.val / 8 := by
  have e : laneWord n h (ix2 a l) = laneWord n h (ix2 0 l) := rfl
  rw [e]
  clear e a
  rcases hn with rfl | rfl | rfl | rfl <;> rcases hh with rfl | rfl <;> revert l <;> decide +kernel

theorem shift_bits : ∀ (l : Fin 128) (k : Fin 4) (q : Fin 8),
    (k0_pay8 (ix2 (0 : Fin 384) l)).getLsbD (8 * k.val + q.val) = decide (q.val = l.val % 8) := by decide +kernel

theorem group_lt {n h : BitVec 32} (hn : n = 0#32 ∨ n = 16#32 ∨ n = 32#32 ∨ n = 48#32) (hh : h = 0#32 ∨ h = 64#32) (l : Fin 128) :
    h.toNat + n.toNat + l.val / 8 < 128 := by
  have hl := l.isLt
  have e64 : (64#32 : BitVec 32).toNat = 64 := rfl
  have e16 : (16#32 : BitVec 32).toNat = 16 := rfl
  have e32 : (32#32 : BitVec 32).toNat = 32 := rfl
  have e48 : (48#32 : BitVec 32).toNat = 48 := rfl
  have e0 : (0#32 : BitVec 32).toNat = 0 := rfl
  rcases hn with rfl | rfl | rfl | rfl <;> rcases hh with rfl | rfl <;> omega

/-- An element is kept exactly when bit `l % 8` of the mask byte at lane `h + n + l / 8` of its row is set. -/
theorem keep_apply (m : IVec S1536x128 8) (n h : BitVec 32) (hn : n = 0#32 ∨ n = 16#32 ∨ n = 32#32 ∨ n = 48#32) (hh : h = 0#32 ∨ h = 64#32)
    (r : Fin 1536) (l : Fin 128) :
    keep m n h (ix2 r l) = BitVec.ofBool ((m (ix2 r ⟨h.toNat + n.toNat + l.val / 8, group_lt hn hh l⟩)).getLsbD (l.val % 8)) := by
  have hr := r.isLt
  set b := (m (ix2 r ⟨h.toNat + n.toNat + l.val / 8, group_lt hn hh l⟩)).getLsbD (l.val % 8) with hb
  set w := andi (dynamicGather 1 (bitcast S384x128 32 m bitcasts_S1536x128_w8_S384x128_w32) (laneWord n h)) k0_pay8 with hw
  set x := bitcast S1536x128 8 w bitcasts_S384x128_w32_S1536x128_w8 (ix2 r l) with hx
  have hbit : ∀ q, q < 8 → x.getLsbD q = (decide (q = l.val % 8) && b) := by
    intro q hq
    rw [hx, byte_bit w _ r l q hq]
    have e1 : w (ix2 ⟨r.val / 4, by omega⟩ l)
        = bitcast S384x128 32 m bitcasts_S1536x128_w8_S384x128_w32 (ix2 ⟨r.val / 4, by omega⟩ ⟨h.toNat + n.toNat + l.val / 8, group_lt hn hh l⟩)
          &&& k0_pay8 (ix2 (0 : Fin 384) l) := by
      show dynamicGather 1 _ _ _ &&& _ = _
      congr 1
      show bitcast S384x128 32 m bitcasts_S1536x128_w8_S384x128_w32 _ = _
      congr 1
      funext c
      match c with
      | ⟨0, _⟩ => rfl
      | ⟨1, _⟩ =>
        refine Fin.ext ?_
        show (laneWord n h _).toNat % 128 = _
        rw [lane_value n h hn hh]
        exact Nat.mod_eq_of_lt (group_lt hn hh l)
    have e2 : (bitcast S384x128 32 m bitcasts_S1536x128_w8_S384x128_w32 (ix2 ⟨r.val / 4, by omega⟩ ⟨h.toNat + n.toNat + l.val / 8, group_lt hn hh l⟩)).getLsbD (8 * (r.val % 4) + q)
        = (m (ix2 r ⟨h.toNat + n.toNat + l.val / 8, group_lt hn hh l⟩)).getLsbD ((8 * (r.val % 4) + q) % 8) :=
      bitcast_8_32_getLsbD_ix2 m bitcasts_S1536x128_w8_S384x128_w32 ⟨r.val / 4, by omega⟩ ⟨h.toNat + n.toNat + l.val / 8, group_lt hn hh l⟩ (8 * (r.val % 4) + q) (by omega) r (by show r.val = 4 * (r.val / 4) + _; omega)
    rw [e1, BitVec.getLsbD_and, e2, shift_bits l ⟨r.val % 4, by omega⟩ ⟨q, hq⟩]
    rw [show (8 * (r.val % 4) + q) % 8 = q by omega, hb]
    by_cases hql : q = l.val % 8
    · subst hql; simp
    · simp [hql]
  have key : (x.setWidth 32 ≠ 0#32) ↔ b = true := by
    constructor
    · intro hne
      by_contra hbf
      apply hne
      have hx0 : x = 0#8 := by
        apply BitVec.eq_of_getLsbD_eq
        intro q hq
        rw [hbit q hq]
        simp [Bool.eq_false_iff.mpr hbf]
      rw [hx0]; rfl
    · intro hbt h0
      have hl8 : l.val % 8 < 8 := Nat.mod_lt _ (by decide)
      have h1 := hbit (l.val % 8) hl8
      have h2 : (x.setWidth 32).getLsbD (l.val % 8) = x.getLsbD (l.val % 8) := by
        rw [BitVec.getLsbD_setWidth]; simp; omega
      rw [h0] at h2
      rw [← h2, hbt] at h1
      simp at h1
  show BitVec.ofBool (x.setWidth 32 != 0#32) = _
  congr 1
  cases hbv : b
  · rw [bne_eq_false_iff_eq]
    by_contra hne
    exact absurd (key.mp hne) (by rw [hbv]; decide)
  · rw [bne_iff_ne]; exact key.mpr hbv

end Cert.Kernel.Whole

end
-- ==== Proof.Bits.Dw.lean ====
module

public import proofs.«01_k».proof.Proof.Bits.Dx

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block window `w` of call 1 stages at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1 holds its block at every point, for proof data that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1 holds its block at every point, for proof data that leave it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1 holds its block at every point, for proof data that leave it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1 holds its block at every point, for proof data that leave it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1 holds its block at every point, for proof data that leave it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 of call 1 holds its block at every point, for proof data that leave it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The condition of the second call's body: the grid's first point. -/
abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val % 37 = 0 :=
  (fun t => by
    have ht : t.val < 37 := Nat.lt_of_lt_of_eq t.isLt N_1
    have e0 : (grid1.coords t 0).val = t.val / 1 % 37 := Pipeline.Grid.coords_val t 0 (by decide) rfl
    simp only [first1, e0]
    word_cmp
   : ∀ t : Fin grid1.N, first1 (grid1.coords t) ↔ t.val % 37 = 0)

theorem cover1_6 (p0 : Vec F S512x3584 .f32) (y : S512x3584.Idx) :
    ∃ pc ∈ ([⟨Rect.unit (s := S512x3584) ![0, 0] S512x3584.size inb_S512x3584_S512x3584_0_0, p0⟩] : List (View.Piece (Elt F) S512x3584 .f32)), y ∈ pc.1.set :=
  View.cover_of_tiled [⟨Rect.unit (s := S512x3584) ![0, 0] S512x3584.size inb_S512x3584_S512x3584_0_0, p0⟩] S512x3584.size (by rfl) y
theorem cover1_7 (p0 : Vec F S1536x512 .fp8e5m2) (y : S1536x512.Idx) :
    ∃ pc ∈ ([⟨Rect.unit (s := S1536x512) ![0, 0] S1536x512.size inb_S1536x512_S1536x512_0_0, p0⟩] : List (View.Piece (Elt F) S1536x512 .fp8e5m2)), y ∈ pc.1.set :=
  View.cover_of_tiled [⟨Rect.unit (s := S1536x512) ![0, 0] S1536x512.size inb_S1536x512_S1536x512_0_0, p0⟩] S1536x512.size (by rfl) y
theorem cover1_8 (p0 : Vec F S1536x3584 .bf16) (y : S1536x3584.Idx) :
    ∃ pc ∈ ([⟨Rect.unit (s := S1536x3584) ![0, 0] S1536x3584.size inb_S1536x3584_S1536x3584_0_0, p0⟩] : List (View.Piece (Elt F) S1536x3584 .bf16)), y ∈ pc.1.set :=
  View.cover_of_tiled [⟨Rect.unit (s := S1536x3584) ![0, 0] S1536x3584.size inb_S1536x3584_S1536x3584_0_0, p0⟩] S1536x3584.size (by rfl) y
theorem cover1_9 (p0 : Vec F S1536x1 .f32) (y : S1536x1.Idx) :
    ∃ pc ∈ ([⟨Rect.unit (s := S1536x1) ![0, 0] S1536x1.size inb_S1536x1_S1536x1_0_0, p0⟩] : List (View.Piece (Elt F) S1536x1 .f32)), y ∈ pc.1.set :=
  View.cover_of_tiled [⟨Rect.unit (s := S1536x1) ![0, 0] S1536x1.size inb_S1536x1_S1536x1_0_0, p0⟩] S1536x1.size (by rfl) y

set_option maxHeartbeats 1000000 in
/-- The second call's body at its first point: it fills the two scratch buffers and uses them. -/
theorem sound_first1 (c : Dev nD) (E : Set ℕ) (i : grid1.Coords) (arg1 : Memref sig .tc .vmem S1536x512 .fp8e4m3) (harg1 : arg1.IsWhole) (arg2 : Memref sig .tc .vmem S1x1536 .f32) (harg2 : arg2.IsWhole) (arg3 : Memref sig .tc .vmem S1536x3584 .fp8e5m2) (harg3 : arg3.IsWhole) (arg4 : Memref sig .tc .vmem S1536x1 .f32) (harg4 : arg4.IsWhole) (arg5 : Memref sig .tc .vmem S1536x512 .f32) (harg5 : arg5.IsWhole) (arg6 : Memref sig .tc .vmem S1536x1 .f32) (harg6 : arg6.IsWhole) (arg7 : Memref sig .tc .vmem S512x3584 .f32) (harg7 : arg7.IsWhole) (arg8 : Memref sig .tc .vmem S1536x512 .fp8e5m2) (harg8 : arg8.IsWhole) (arg9 : Memref sig .tc .vmem S1536x3584 .bf16) (harg9 : arg9.IsWhole) (arg10 : Memref sig .tc .vmem S1536x1 .f32) (harg10 : arg10.IsWhole) (hc0 : first1 i)
    (x0 : Vec F S1536x512 .fp8e4m3) (x1 : Vec F S1x1536 .f32) (x2 : Vec F S1536x3584 .fp8e5m2) (x3 : Vec F S1536x1 .f32) (x4 : Vec F S1536x512 .f32) (x5 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 (k1_pay4 x2 x3)) ∗ owns (c : Thread nD τ) arg8 fullShare (k1_pay3 x4 (k1_pay1 (k1_pay5 (F := F) x5))) ∗ owns (c : Thread nD τ) arg9 fullShare (k1_pay4 x2 x3) ∗ owns (c : Thread nD τ) arg10 fullShare (k1_pay1 (k1_pay5 (F := F) x5))) -∗ K ⟨⟩))
      ⊢ wp frame (wpE (defs₀ (F := F)) Variants.none c none) E (cc1_dw2 i arg1 harg1 arg2 harg2 arg3 harg3 arg4 harg4 arg5 harg5 arg6 harg6 arg7 harg7 arg8 harg8 arg9 harg9 arg10 harg10) K := by
  simp only [cc1_dw2_eq_skeleton]; unfold cc1_dw2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (View.read_writes_eq_canon _ _ _ (cover1_6 _)).trans ((View.canon_unit_zero off2 _ _).trans ?_)
    exact congr3 k1_pay2 (readAt_whole _ off2 _ _ (harg1.read_unread _)) (readAt_whole _ off2 _ _ (harg2.read_unread _)) (readCov_whole _ off2 _ (congrArg₂ k1_pay4 (readAt_whole _ off2 _ _ (harg3.read_unread _)) (readAt_whole _ off2 _ _ (harg4.read_unread _))))
  isplitl [H7]
  · iexists _; isplitr
    swap; · iexact H7
    ipureintro
    refine (View.read_writes_eq_canon _ _ _ (cover1_7 _)).trans ((View.canon_unit_zero off2 _ _).trans ?_)
    exact congrArg₂ k1_pay3 (readAt_whole _ off2 _ _ (harg5.read_unread _)) (readCov_whole _ off2 _ (congrArg (fun x => k1_pay1 (k1_pay5 (F := F) x)) (readAt_whole _ off2 _ _ (harg6.read_unread _))))
  isplitl [H8]
  · iexists _; isplitr
    swap; · iexact H8
    ipureintro
    refine (View.read_writes_eq_canon _ _ _ (cover1_8 _)).trans ((View.canon_unit_zero off2 _ _).trans ?_)
    exact (congrArg₂ k1_pay4 (readAt_whole _ off2 _ _ (harg3.read_unread _)) (readAt_whole _ off2 _ _ (harg4.read_unread _)))
  iexists _; isplitr
  swap; · iexact H9
  ipureintro
  refine (View.read_writes_eq_canon _ _ _ (cover1_9 _)).trans ((View.canon_unit_zero off2 _ _).trans ?_)
  exact (congrArg (fun x => k1_pay1 (k1_pay5 (F := F) x)) (readAt_whole _ off2 _ _ (harg6.read_unread _)))

set_option maxHeartbeats 1000000 in
/-- The second call's body at a later point: it uses the two scratch buffers as it finds them. -/
theorem sound_later1 (c : Dev nD) (E : Set ℕ) (i : grid1.Coords) (arg1 : Memref sig .tc .vmem S1536x512 .fp8e4m3) (harg1 : arg1.IsWhole) (arg2 : Memref sig .tc .vmem S1x1536 .f32) (harg2 : arg2.IsWhole) (arg3 : Memref sig .tc .vmem S1536x3584 .fp8e5m2) (harg3 : arg3.IsWhole) (arg4 : Memref sig .tc .vmem S1536x1 .f32) (harg4 : arg4.IsWhole) (arg5 : Memref sig .tc .vmem S1536x512 .f32) (harg5 : arg5.IsWhole) (arg6 : Memref sig .tc .vmem S1536x1 .f32) (harg6 : arg6.IsWhole) (arg7 : Memref sig .tc .vmem S512x3584 .f32) (harg7 : arg7.IsWhole) (arg8 : Memref sig .tc .vmem S1536x512 .fp8e5m2) (harg8 : arg8.IsWhole) (arg9 : Memref sig .tc .vmem S1536x3584 .bf16) (harg9 : arg9.IsWhole) (arg10 : Memref sig .tc .vmem S1536x1 .f32) (harg10 : arg10.IsWhole) (hc0 : ¬ first1 i)
    (x0 : Vec F S1536x512 .fp8e4m3) (x1 : Vec F S1x1536 .f32) (x2 : Vec F S1536x3584 .fp8e5m2) (x3 : Vec F S1536x1 .f32) (x4 : Vec F S1536x512 .f32) (x5 : Vec F S1536x1 .f32) (s0 : Vec F S1536x3584 .bf16) (s1 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 s0) ∗ owns (c : Thread nD τ) arg8 fullShare (k1_pay3 x4 s1) ∗ owns (c : Thread nD τ) arg9 fullShare s0 ∗ owns (c : Thread nD τ) arg10 fullShare s1) -∗ K ⟨⟩))
      ⊢ wp frame (wpE (defs₀ (F := F)) Variants.none c none) E (cc1_dw2 i arg1 harg1 arg2 harg2 arg3 harg3 arg4 harg4 arg5 harg5 arg6 harg6 arg7 harg7 arg8 harg8 arg9 harg9 arg10 harg10) K := by
  simp only [cc1_dw2_eq_skeleton]; unfold cc1_dw2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (View.read_writes_eq_canon _ _ _ (cover1_6 _)).trans ((View.canon_unit_zero off2 _ _).trans ?_)
    exact congr3 k1_pay2 (readAt_whole _ off2 _ _ (harg1.read_unread _)) (readAt_whole _ off2 _ _ (harg2.read_unread _)) (readAt_whole _ off2 _ _ (harg9.read_unread _))
  isplitl [H7]
  · iexists _; isplitr
    swap; · iexact H7
    ipureintro
    refine (View.read_writes_eq_canon _ _ _ (cover1_7 _)).trans ((View.canon_unit_zero off2 _ _).trans ?_)
    exact congrArg₂ k1_pay3 (readAt_whole _ off2 _ _ (harg5.read_unread _)) (readAt_whole _ off2 _ _ (harg10.read_unread _))
  isplitl [H8]
  · iexists _; isplitr; · ipureintro; exact harg9.read_unread _
    iexact H8
  iexists _; isplitr; · ipureintro; exact harg10.read_unread _
  iexact H9

/-! ## The proof data of the second call -/

theorem N1 : cfg1.N = 37 := N_1
/-- The grid's first point. -/
abbrev p1 : Fin cfg1.N := ⟨0, by rw [N1]; decide⟩
/-- What the first scratch buffer holds from the first point on. -/
def gb (c : Dev nD) : Vec F S1536x3584 .bf16 := k1_pay4 (iblk1 V c 2 p1) (iblk1 V c 3 p1)
/-- What the second scratch buffer holds from the first point on. -/
def inv (c : Dev nD) : Vec F S1536x1 .f32 := k1_pay1 (k1_pay5 (F := F) (iblk1 V c 5 p1))

/-- The call's scratch memory and its generator, before the first point and after each point. -/
def Phi1 (c : Dev nD) : (n : ℕ) → sProp 𝕄
  | 0 => Pipeline.ΦA spec1 c
  | _ + 1 => iprop(iprop(iprop(owns (c : Thread nD τ) (Memref.whole cc1_scratch0 : Memref sig .tc .vmem S1536x3584 .bf16) fullShare (gb V c)
      ∗ owns (c : Thread nD τ) (Memref.whole cc1_scratch1 : Memref sig .tc .vmem S1536x1 .f32) fullShare (inv V c))
      ∗ Pipeline.scopedRestBut (Val := Elt F) (Ix := Unit) (Name := ℕ) (U := UR sig nD τ) (Lvl := ℕ) spec1 c [cc1_scratch0, cc1_scratch1]) ∗ (∃ r, prngReg c r))

theorem PhiA1_eq (c : Dev nD) : (Pipeline.ΦA spec1 c : sProp 𝕄)
    = iprop(iprop(iprop((∃ d, owns (c : Thread nD τ) (Memref.whole cc1_scratch0 : Memref sig .tc .vmem S1536x3584 .bf16) fullShare d)
      ∗ (∃ d, owns (c : Thread nD τ) (Memref.whole cc1_scratch1 : Memref sig .tc .vmem S1536x1 .f32) fullShare d))
      ∗ Pipeline.scopedRestBut (Val := Elt F) (Ix := Unit) (Name := ℕ) (U := UR sig nD τ) (Lvl := ℕ) spec1 c [cc1_scratch0, cc1_scratch1]) ∗ (∃ r, prngReg c r)) := by
  unfold Pipeline.ΦA; rw [scopedRest1_split]; simp only [owns_whole]; try rfl

/-- The second call's proof data, over the arrays as the call finds them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (iblk1 V c 1 t) (gb V c)
    | ⟨7, _⟩ => k1_pay3 (iblk1 V c 4 t) (inv V c)
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (iblk1 V c 0 t) (iblk1 V c 1 t) (gb V c) := by dsimp only [dat1]
theorem after1_7 (c : Dev nD) (t : Fin cfg1.N) : (dat1 V c).after 7 t = k1_pay3 (iblk1 V c 4 t) (inv V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem Phi1_cast (c : Dev nD) (t : Fin cfg1.N) : (dat1 V c).Φ t.castSucc = Phi1 V c t.val := by
  dsimp only [dat1]; exact Pipeline.Dat.Φ_castSucc (fun n _ => Phi1 V c n) t

set_option maxHeartbeats 1000000 in
/-- The body at any point, by the two triples above. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  rw [show (dat1 V c).Φ t.succ = Phi1 V c (t.val + 1) from rfl, Phi1_cast]
  have hN : t.val < 37 := lt_of_lt_of_eq t.isLt N1
  by_cases h0 : t.val = 0
  · have hf : first1 (grid1.coords t) := (first1_iff t).mpr (by omega)
    have ht : t = p1 := Fin.ext h0
    rw [h0, show Phi1 V c 0 = Pipeline.ΦA spec1 c from rfl, PhiA1_eq]
    unfold Phi1 gb inv
    rw [← ht]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first1 c Set.univ (grid1.coords t) _ _ _ _ _ _ _ _ _ _ _ _ _ _ _ _ _ _ _ _ hf (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HB Hg]
    · isplitl [HS0 HS1 HB]
      · isplitl [HS0 HS1]
        · isplitl [HS0]
          · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hf : ¬ first1 (grid1.coords t) := fun h => h0 (by have := (first1_iff t).mp h; omega)
    obtain ⟨n, hn⟩ : ∃ n, t.val = n + 1 := ⟨t.val - 1, by omega⟩
    rw [hn]
    unfold Phi1
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later1 c Set.univ (grid1.coords t) _ _ _ _ _ _ _ _ _ _ _ _ _ _ _ _ _ _ _ _ hf (iblk1 V c 0 t) (iblk1 V c 1 t) (iblk1 V c 2 t) (iblk1 V c 3 t) (iblk1 V c 4 t) (iblk1 V c 5 t) (gb V c) (inv V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HB Hg]
    · isplitl [HS0 HS1 HB]
      · isplitl [HS0 HS1]
        · isplitl [HS0]
          · iexact HS0
          iexact HS1
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) :
    defs₀ (F := F) .tc cfg1.body (cfg1.bodyArgs t (cfg1.slots t)) = bodyAt1 t := by
  unfold defs₀; rw [Defs.onTc_tc]

/-- The body obligation of the second call. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the scratch contents are forgotten. -/
theorem Phi1_out (c : Dev nD) : (dat1 V c).Φ (Fin.last cfg1.N) ⊢ Pipeline.ΦA spec1 c := by
  have e : (dat1 V c).Φ (Fin.last cfg1.N) = Phi1 V c (36 + 1) := by
    show Phi1 V c (Fin.last cfg1.N).val = _
    rw [Fin.val_last, N1]
  rw [e, PhiA1_eq]
  unfold Phi1
  iintro ⟨⟨⟨HS0, HS1⟩, HB⟩, Hg⟩
  isplitl [HS0 HS1 HB]
  · isplitl [HS0 HS1]
    · isplitl [HS0]
      · iexists _; iexact HS0
      iexists _; iexact HS1
    iexact HB
  iexact Hg

end Cert.Kernel.Whole

end
-- ==== Proof.Bits.Dh.lean ====
module

public import proofs.«01_k».proof.Proof.Bits.Keep
public import proofs.«01_k».proof.Proof.Bits.Dw

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One group of 128 columns of the masked product: the columns `x` scaled per row by `s`, and zero where the mask drops them. -/
def tile (x : FVec F S1536x128 .f32) (m : IVec S1536x128 8) (n h : BitVec 32) (s : Vec F S1536x1 .f32) : FVec F S1536x128 .f32 :=
  select (keep m n h) (mulf x (broadcastTo S1536x128 s broadcasts_S1536x1_S1536x128)) (broadcast S1536x128 (Scalar.ofBits .f32 0x00000000#32))

def tile0 (g : FVec F S1536x512 .f32) (m : IVec S1536x128 8) (h : BitVec 32) (s : Vec F S1536x1 .f32) : FVec F S1536x128 .f32 :=
  tile (extractStridedSlice S1536x128 ![0, 0] g slices_S1536x512_o0_0_S1536x128) m 0#32 h s
def tile1 (g : FVec F S1536x512 .f32) (m : IVec S1536x128 8) (h : BitVec 32) (s : Vec F S1536x1 .f32) : FVec F S1536x128 .f32 :=
  tile (extractStridedSlice S1536x128 ![0, 128] g slices_S1536x512_o0_128_S1536x128) m 16#32 h s
def tile2 (g : FVec F S1536x512 .f32) (m : IVec S1536x128 8) (h : BitVec 32) (s : Vec F S1536x1 .f32) : FVec F S1536x128 .f32 :=
  tile (extractStridedSlice S1536x128 ![0, 256] g slices_S1536x512_o0_256_S1536x128) m 32#32 h s
def tile3 (g : FVec F S1536x512 .f32) (m : IVec S1536x128 8) (h : BitVec 32) (s : Vec F S1536x1 .f32) : FVec F S1536x128 .f32 :=
  tile (extractStridedSlice S1536x128 ![0, 384] g slices_S1536x512_o0_384_S1536x128) m 48#32 h s

abbrev lanes0 : IVec S384x128 32 := iota .tc S384x128 32 [1] iota_S384x128_d1_w32

theorem tile0_eq (g : FVec F S1536x512 .f32) (m : Vec F S1536x128 .i8) (h : BitVec 32) (s : Vec F S1536x1 .f32) :
    k0_pay10 g (k0_pay7 m) k0_pay8 h k0_pay9 0#32 s = tile0 g m h s := by
  unfold k0_pay10 k0_pay7 tile0 tile keep laneWord k0_pay9; simp only [shapeCast_comp, shapeCast_id]
theorem tile1_eq (g : FVec F S1536x512 .f32) (m : Vec F S1536x128 .i8) (h : BitVec 32) (s : Vec F S1536x1 .f32) :
    k0_pay14 (k0_pay12 (k0_pay7 m) lanes0 k0_pay8 h) (k0_pay13 g) s = tile1 g m h s := by
  unfold k0_pay14 k0_pay12 k0_pay13 k0_pay7 tile1 tile keep laneWord k0_pay9; simp only [shapeCast_comp, shapeCast_id]
theorem tile2_eq (g : FVec F S1536x512 .f32) (m : Vec F S1536x128 .i8) (h : BitVec 32) (s : Vec F S1536x1 .f32) :
    k0_pay15 g (k0_pay7 m) lanes0 k0_pay8 h s = tile2 g m h s := by
  unfold k0_pay15 k0_pay7 tile2 tile keep laneWord k0_pay9; simp only [shapeCast_comp, shapeCast_id]
theorem tile3_eq (g : FVec F S1536x512 .f32) (m : Vec F S1536x128 .i8) (h : BitVec 32) (s : Vec F S1536x1 .f32) :
    k0_pay1 g (k0_pay7 m) k0_pay8 (k0_pay17 lanes0 h) s = tile3 g m h s := by
  unfold k0_pay1 k0_pay7 k0_pay17 tile3 tile keep laneWord k0_pay9; simp only [shapeCast_comp, shapeCast_id]

/-- What the first call leaves in one block of its result. -/
def dhOut (g : FVec F S1536x512 .f32) (m : IVec S1536x128 8) (h : BitVec 32) (s : Vec F S1536x1 .f32) : Vec F S1536x512 .f32 :=
  View.canon (Val := Elt F) (e := .f32) [⟨Rect.unit (s := S1536x512) ![0, 384] S1536x128.size inb_S1536x512_S1536x128_0_384, tile3 g m h s⟩,
    ⟨Rect.unit (s := S1536x512) ![0, 256] S1536x128.size inb_S1536x512_S1536x128_0_256, tile2 g m h s⟩,
    ⟨Rect.unit (s := S1536x512) ![0, 128] S1536x128.size inb_S1536x512_S1536x128_0_128, tile1 g m h s⟩,
    ⟨Rect.unit (s := S1536x512) ![0, 0] S1536x128.size inb_S1536x512_S1536x128_0_0, tile0 g m h s⟩]

/-- The running maximum of the magnitudes after one more block. -/
def runOut (g : FVec F S1536x512 .f32) (m : IVec S1536x128 8) (h : BitVec 32) (s : Vec F S1536x1 .f32) (run : Vec F S1536x128 .f32) : Vec F S1536x128 .f32 :=
  maximumf (maximumf (maximumf (maximumf run (absf (tile0 g m h s))) (absf (tile1 g m h s))) (absf (tile2 g m h s))) (absf (tile3 g m h s))

theorem dh_canon {g' g : FVec F S1536x512 .f32} {m' m : Vec F S1536x128 .i8} (h : BitVec 32) {s' s : Vec F S1536x1 .f32}
    (hg : g' = g) (hm : m' = m) (hs : s' = s) :
    View.canon (Val := Elt F) (e := .f32) [⟨Rect.unit (s := S1536x512) ![0, 384] S1536x128.size inb_S1536x512_S1536x128_0_384, k0_pay1 g' (k0_pay7 m') k0_pay8 (k0_pay17 lanes0 h) s'⟩,
      ⟨Rect.unit (s := S1536x512) ![0, 256] S1536x128.size inb_S1536x512_S1536x128_0_256, k0_pay15 g' (k0_pay7 m') lanes0 k0_pay8 h s'⟩,
      ⟨Rect.unit (s := S1536x512) ![0, 128] S1536x128.size inb_S1536x512_S1536x128_0_128, k0_pay14 (k0_pay12 (k0_pay7 m') lanes0 k0_pay8 h) (k0_pay13 g') s'⟩,
      ⟨Rect.unit (s := S1536x512) ![0, 0] S1536x128.size inb_S1536x512_S1536x128_0_0, k0_pay10 g' (k0_pay7 m') k0_pay8 h k0_pay9 0#32 s'⟩] = dhOut g m h s := by
  rw [hg, hm, hs, tile0_eq, tile1_eq, tile2_eq, tile3_eq]; rfl

theorem run_eq {g' g : FVec F S1536x512 .f32} {m' m : Vec F S1536x128 .i8} (h : BitVec 32) {s' s : Vec F S1536x1 .f32} {r' r : Vec F S1536x128 .f32}
    (hg : g' = g) (hm : m' = m) (hs : s' = s) (hr : r' = r) :
    k0_pay2 g' (k0_pay7 m') k0_pay8 (k0_pay16 g' (k0_pay7 m') lanes0 k0_pay8 h (k0_pay11 g' (k0_pay7 m') k0_pay8 h r' k0_pay9 0#32 s')
        (k0_pay12 (k0_pay7 m') lanes0 k0_pay8 h) (k0_pay13 g') s' s') (k0_pay17 lanes0 h) s' = runOut g m h s r := by
  unfold k0_pay2 k0_pay16 k0_pay11
  rw [hg, hm, hs, hr, tile0_eq, tile1_eq, tile2_eq, tile3_eq]
  simp only [shapeCast_id]; rfl

theorem cover0_5 (p3 p2 p1 p0 : Vec F S1536x128 .f32) (y : S1536x512.Idx) :
    ∃ pc ∈ ([⟨Rect.unit (s := S1536x512) ![0, 384] S1536x128.size inb_S1536x512_S1536x128_0_384, p3⟩,
      ⟨Rect.unit (s := S1536x512) ![0, 256] S1536x128.size inb_S1536x512_S1536x128_0_256, p2⟩,
      ⟨Rect.unit (s := S1536x512) ![0, 128] S1536x128.size inb_S1536x512_S1536x128_0_128, p1⟩,
      ⟨Rect.unit (s := S1536x512) ![0, 0] S1536x128.size inb_S1536x512_S1536x128_0_0, p0⟩] : List (View.Piece (Elt F) S1536x512 .f32)), y ∈ pc.1.set :=
  View.cover_of_tiled ([⟨Rect.unit (s := S1536x512) ![0, 384] S1536x128.size inb_S1536x512_S1536x128_0_384, p3⟩,
      ⟨Rect.unit (s := S1536x512) ![0, 256] S1536x128.size inb_S1536x512_S1536x128_0_256, p2⟩,
      ⟨Rect.unit (s := S1536x512) ![0, 128] S1536x128.size inb_S1536x512_S1536x128_0_128, p1⟩,
      ⟨Rect.unit (s := S1536x512) ![0, 0] S1536x128.size inb_S1536x512_S1536x128_0_0, p0⟩] : List (View.Piece (Elt F) S1536x512 .f32)) S1536x128.size (by rfl) y
theorem cover0_6 (p0 : Vec F S1536x1 .f32) (y : S1536x1.Idx) :
    ∃ pc ∈ ([⟨Rect.unit (s := S1536x1) ![0, 0] S1536x1.size inb_S1536x1_S1536x1_0_0, p0⟩] : List (View.Piece (Elt F) S1536x1 .f32)), y ∈ pc.1.set :=
  View.cover_of_tiled [⟨Rect.unit (s := S1536x1) ![0, 0] S1536x1.size inb_S1536x1_S1536x1_0_0, p0⟩] S1536x1.size (by rfl) y
theorem cover0_s0 (p0 : Vec F S1536x3584 .bf16) (y : S1536x3584.Idx) :
    ∃ pc ∈ ([⟨Rect.unit (s := S1536x3584) ![0, 0] S1536x3584.size inb_S1536x3584_S1536x3584_0_0, p0⟩] : List (View.Piece (Elt F) S1536x3584 .bf16)), y ∈ pc.1.set :=
  View.cover_of_tiled [⟨Rect.unit (s := S1536x3584) ![0, 0] S1536x3584.size inb_S1536x3584_S1536x3584_0_0, p0⟩] S1536x3584.size (by rfl) y
theorem cover0_s1 (p0 : Vec F S1536x128 .f32) (L : List (View.Piece (Elt F) S1536x128 .f32)) (y : S1536x128.Idx) :
    ∃ pc ∈ ((⟨Rect.unit (s := S1536x128) ![0, 0] S1536x128.size inb_S1536x128_S1536x128_0_0, p0⟩ : View.Piece (Elt F) S1536x128 .f32) :: L), y ∈ pc.1.set := by
  obtain ⟨pc, h, hy⟩ := View.cover_of_tiled [(⟨Rect.unit (s := S1536x128) ![0, 0] S1536x128.size inb_S1536x128_S1536x128_0_0, p0⟩ : View.Piece (Elt F) S1536x128 .f32)] S1536x128.size (by rfl) y
  rw [List.mem_singleton] at h
  exact ⟨pc, by rw [h]; exact List.mem_cons_self, hy⟩

/-- The first lane of the mask block the body reads, as it computes it. -/
def halfWord (i : grid0.Coords) : BitVec 32 :=
  Scalar.muli (Scalar.select (Scalar.andi (Scalar.xori (Scalar.cmpi .slt (Scalar.remsi (BitVec.ofNat 32 (i 0).val) (Scalar.select (Scalar.cmpi .eq 2#32 0#32) 1#32 2#32)) 0#32)
      (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32))
      (Scalar.addi (Scalar.remsi (BitVec.ofNat 32 (i 0).val) (Scalar.select (Scalar.cmpi .eq 2#32 0#32) 1#32 2#32)) (Scalar.select (Scalar.cmpi .eq 2#32 0#32) 1#32 2#32))
      (Scalar.remsi (BitVec.ofNat 32 (i 0).val) (Scalar.select (Scalar.cmpi .eq 2#32 0#32) 1#32 2#32))) 64#32

/-- The condition of the first call's body: the grid's first point. -/
abbrev first0 (i : grid0.Coords) : Prop := (Scalar.cmpi .ne (Scalar.extui (Scalar.cmpi .eq (BitVec.ofNat 32 (i 0).val) 0#32)) 0#32) = 1#1

set_option maxHeartbeats 2000000 in
/-- The first call's body at its first point. -/
theorem sound_first0 (c : Dev nD) (E : Set ℕ) (i : grid0.Coords) (arg1 : Memref sig .tc .vmem S1536x3584 .fp8e5m2) (harg1 : arg1.IsWhole) (arg2 : Memref sig .tc .vmem S1536x1 .f32) (harg2 : arg2.IsWhole) (arg3 : Memref sig .tc .vmem S1536x128 .i8) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S1536x512 .f32) (harg6 : arg6.IsWhole) (arg7 : Memref sig .tc .vmem S1536x1 .f32) (harg7 : arg7.IsWhole) (arg8 : Memref sig .tc .vmem S1536x3584 .bf16) (harg8 : arg8.IsWhole) (arg9 : Memref sig .tc .vmem S1536x128 .f32) (harg9 : arg9.IsWhole) (hc0 : first0 i) (hc2 : ¬ k0_cond2 i = 1#1)
    (x0 : Vec F S1536x3584 .fp8e5m2) (x1 : Vec F S1536x1 .f32) (x2 : Vec F S1536x128 .i8) (x3 : Vec F S512x3584 .fp8e4m3) (x4 : Vec F S1x3584 .f32) (x6 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhOut (k0_pay6 x3 x4 (k0_pay4 x0)) x2 (halfWord i) x1) ∗ owns (c : Thread nD τ) arg7 fullShare x6 ∗ owns (c : Thread nD τ) arg8 fullShare (k0_pay4 x0) ∗ owns (c : Thread nD τ) arg9 fullShare (runOut (k0_pay6 x3 x4 (k0_pay4 x0)) x2 (halfWord i) x1 k0_pay5)) -∗ K ⟨⟩))
      ⊢ wp frame (wpE (defs₀ (F := F)) Variants.none c none) E (cc0_dh i arg1 harg1 arg2 harg2 arg3 harg3 arg4 harg4 arg5 harg5 arg6 harg6 arg7 harg7 arg8 harg8 arg9 harg9) K := by
  simp only [cc0_dh_eq_skeleton]; unfold cc0_dh_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_eq_canon _ _ _ (cover0_5 _ _ _ _)).trans (dh_canon (halfWord i) (congr3 k0_pay6 (readAt_whole _ off2 _ _ (harg4.read_unread _)) (readAt_whole _ off2 _ _ (harg5.read_unread _)) (readCov_whole _ off2 _ (congrArg k0_pay4 (readAt_whole _ off2 _ _ (harg1.read_unread _))))) (readAt_whole _ off2 _ _ (harg3.read_unread _)) (readAt_whole _ off2 _ _ (harg2.read_unread _)))
  isplitl [H6]
  · iexists _; isplitr; · ipureintro; exact harg7.read_unread _
    iexact H6
  isplitl [H7]
  · iexists _; isplitr
    swap; · iexact H7
    ipureintro
    exact (View.read_writes_eq_canon _ _ _ (cover0_s0 _)).trans ((View.canon_unit_zero off2 _ _).trans (congrArg k0_pay4 (readAt_whole _ off2 _ _ (harg1.read_unread _))))
  iexists _; isplitr
  swap; · iexact H8
  ipureintro
  exact (View.read_writes_eq_canon _ _ _ (cover0_s1 _ _)).trans ((View.canon_cons_unit_zero off2 _ _ _).trans (run_eq (halfWord i) (congr3 k0_pay6 (readAt_whole _ off2 _ _ (harg4.read_unread _)) (readAt_whole _ off2 _ _ (harg5.read_unread _)) (readCov_whole _ off2 _ (congrArg k0_pay4 (readAt_whole _ off2 _ _ (harg1.read_unread _))))) (readAt_whole _ off2 _ _ (harg3.read_unread _)) (readAt_whole _ off2 _ _ (harg2.read_unread _)) (readCov_whole _ off2 _ rfl)))

set_option maxHeartbeats 2000000 in
/-- The first call's body at a point that is neither the first nor the last. -/
theorem sound_mid0 (c : Dev nD) (E : Set ℕ) (i : grid0.Coords) (arg1 : Memref sig .tc .vmem S1536x3584 .fp8e5m2) (harg1 : arg1.IsWhole) (arg2 : Memref sig .tc .vmem S1536x1 .f32) (harg2 : arg2.IsWhole) (arg3 : Memref sig .tc .vmem S1536x128 .i8) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S1536x512 .f32) (harg6 : arg6.IsWhole) (arg7 : Memref sig .tc .vmem S1536x1 .f32) (harg7 : arg7.IsWhole) (arg8 : Memref sig .tc .vmem S1536x3584 .bf16) (harg8 : arg8.IsWhole) (arg9 : Memref sig .tc .vmem S1536x128 .f32) (harg9 : arg9.IsWhole) (hc0 : ¬ first0 i) (hc2 : ¬ k0_cond2 i = 1#1)
    (x0 : Vec F S1536x3584 .fp8e5m2) (x1 : Vec F S1536x1 .f32) (x2 : Vec F S1536x128 .i8) (x3 : Vec F S512x3584 .fp8e4m3) (x4 : Vec F S1x3584 .f32) (s0 : Vec F S1536x3584 .bf16) (s1 : Vec F S1536x128 .f32) (x6 : Vec F S1536x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhOut (k0_pay6 x3 x4 s0) x2 (halfWord i) x1) ∗ owns (c : Thread nD τ) arg7 fullShare x6 ∗ owns (c : Thread nD τ) arg8 fullShare s0 ∗ owns (c : Thread nD τ) arg9 fullShare (runOut (k0_pay6 x3 x4 s0) x2 (halfWord i) x1 s1)) -∗ K ⟨⟩))
      ⊢ wp frame (wpE (defs₀ (F := F)) Variants.none c none) E (cc0_dh i arg1 harg1 arg2 harg2 arg3 harg3 arg4 harg4 arg5 harg5 arg6 harg6 arg7 harg7 arg8 harg8 arg9 harg9) K := by
  simp only [cc0_dh_eq_skeleton]; unfold cc0_dh_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg7.eq_unread hf6
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_eq_canon _ _ _ (cover0_5 _ _ _ _)).trans (dh_canon (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)))
  isplitl [H6]
  · iexists _; isplitr; · ipureintro; exact harg7.read_unread _
    iexact H6
  isplitl [H7]
  · iexists _; isplitr; · ipureintro; exact harg8.read_unread _
    iexact H7
  iexists _; isplitr
  swap; · iexact H8
  ipureintro
  exact (View.read_writes_eq_canon _ _ _ (cover0_s1 _ _)).trans ((View.canon_cons_unit_zero off2 _ _ _).trans (run_eq (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)) (readAt_whole _ off2 _ _ (harg9.read_unread _))))

set_option maxHeartbeats 2000000 in
/-- The first call's body at its last point, where it also stores the row maxima. -/
theorem sound_last0 (c : Dev nD) (E : Set ℕ) (i : grid0.Coords) (arg1 : Memref sig .tc .vmem S1536x3584 .fp8e5m2) (harg1 : arg1.IsWhole) (arg2 : Memref sig .tc .vmem S1536x1 .f32) (harg2 : arg2.IsWhole) (arg3 : Memref sig .tc .vmem S1536x128 .i8) (harg3 : arg3.IsWhole) (arg4 : Memref sig .tc .vmem S512x3584 .fp8e4m3) (harg4 : arg4.IsWhole) (arg5 : Memref sig .tc .vmem S1x3584 .f32) (harg5 : arg5.IsWhole) (arg6 : Memref sig .tc .vmem S1536x512 .f32) (harg6 : arg6.IsWhole) (arg7 : Memref sig .tc .vmem S1536x1 .f32) (harg7 : arg7.IsWhole) (arg8 : Memref sig .tc .vmem S1536x3584 .bf16) (harg8 : arg8.IsWhole) (arg9 : Memref sig .tc .vmem S1536x128 .f32) (harg9 : arg9.IsWhole) (hc0 : ¬ first0 i) (hc2 : k0_cond2 i = 1#1)
    (x0 : Vec F S1536x3584 .fp8e5m2) (x1 : Vec F S1536x1 .f32) (x2 : Vec F S1536x128 .i8) (x3 : Vec F S512x3584 .fp8e4m3) (x4 : Vec F S1x3584 .f32) (s0 : Vec F S1536x3584 .bf16) (s1 : Vec F S1536x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhOut (k0_pay6 x3 x4 s0) x2 (halfWord i) x1) ∗ owns (c : Thread nD τ) arg7 fullShare (k0_pay3 (runOut (k0_pay6 x3 x4 s0) x2 (halfWord i) x1 s1)) ∗ owns (c : Thread nD τ) arg8 fullShare s0 ∗ owns (c : Thread nD τ) arg9 fullShare (runOut (k0_pay6 x3 x4 s0) x2 (halfWord i) x1 s1)) -∗ K ⟨⟩))
      ⊢ wp frame (wpE (defs₀ (F := F)) Variants.none c none) E (cc0_dh i arg1 harg1 arg2 harg2 arg3 harg3 arg4 harg4 arg5 harg5 arg6 harg6 arg7 harg7 arg8 harg8 arg9 harg9) K := by
  simp only [cc0_dh_eq_skeleton]; unfold cc0_dh_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8
  sl_exec (disch := first | sl_exact hc0 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact (View.read_writes_eq_canon _ _ _ (cover0_5 _ _ _ _)).trans (dh_canon (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)))
  isplitl [H6]
  · iexists _; isplitr
    swap; · iexact H6
    ipureintro
    exact (View.read_writes_eq_canon _ _ _ (cover0_6 _)).trans ((View.canon_unit_zero off2 _ _).trans (congrArg k0_pay3 (readCov_whole _ off2 _ (run_eq (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)) (readAt_whole _ off2 _ _ (harg9.read_unread _))))))
  isplitl [H7]
  · iexists _; isplitr; · ipureintro; exact harg8.read_unread _
    iexact H7
  iexists _; isplitr
  swap; · iexact H8
  ipureintro
  exact (View.read_writes_eq_canon _ _ _ (cover0_s1 _ _)).trans ((View.canon_cons_unit_zero off2 _ _ _).trans (run_eq (halfWord i) (congr3 k0_pay6 (readAt_whole _ off2 _ _ (harg4.read_unread _)) (readAt_whole _ off2 _ _ (harg5.read_unread _)) (readAt_whole _ off2 _ _ (harg8.read_unread _))) (readAt_whole _ off2 _ _ (harg3.read_unread _)) (readAt_whole _ off2 _ _ (harg2.read_unread _)) (readAt_whole _ off2 _ _ (harg9.read_unread _))))
/-! ## Which points are which -/

theorem N0 : cfg0.N = 37 := N_0
theorem first0_iff : ∀ t : Fin cfg0.N, first0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [first0, e0]
    word_cmp
   : ∀ t : Fin grid0.N, first0 (grid0.coords t) ↔ t.val % 37 = 0)
theorem last0_iff : ∀ t : Fin cfg0.N, k0_cond2 (grid0.coords t) = 1#1 ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [k0_cond2, e0]
    word_cmp
   : ∀ t : Fin grid0.N, k0_cond2 (grid0.coords t) = 1#1 ↔ t.val % 37 = 36)

/-- Even points read the first half of the mask block they stage, odd points the second. -/
theorem halfWord_eq : ∀ t : Fin grid0.N, halfWord (grid0.coords t) = BitVec.ofNat 32 (t.val % 2 * 64) := by decide +kernel
theorem halfWord_or (t : Fin cfg0.N) : halfWord (grid0.coords t) = 0#32 ∨ halfWord (grid0.coords t) = 64#32 := by
  rw [halfWord_eq t]
  rcases Nat.mod_two_eq_zero_or_one t.val with h | h <;> rw [h]
  · exact Or.inl rfl
  · exact Or.inr rfl
/-- The half a point reads lies inside the array, also in the array's last block, of which only 64 lanes are there. -/
theorem half_inside : ∀ t : Fin grid0.N, (win0_2.xsize (grid0.coords t) 0 = 1536) ∧ (halfWord (grid0.coords t)).toNat + 64 ≤ win0_2.xsize (grid0.coords t) 1 := by decide +kernel

/-! ## The mask's lanes a point does not read do not matter -/

theorem keep_congr {m m' : IVec S1536x128 8} {n h : BitVec 32} (hn : n = 0#32 ∨ n = 16#32 ∨ n = 32#32 ∨ n = 48#32) (hh : h = 0#32 ∨ h = 64#32)
    (hm : ∀ (r : Fin 1536) (l : Fin 128), h.toNat ≤ l.val → l.val < h.toNat + 64 → m (ix2 r l) = m' (ix2 r l)) : keep m n h = keep m' n h := by
  funext j
  obtain ⟨r, l, rfl⟩ : ∃ (r : Fin 1536) (l : Fin 128), j = ix2 r l := ⟨j 0, j 1, by funext a; fin_cases a <;> rfl⟩
  rw [keep_apply m n h hn hh r l, keep_apply m' n h hn hh r l, hm r _ (by show h.toNat ≤ h.toNat + n.toNat + l.val / 8; omega) (by
    have h8 : l.val / 8 < 16 := by have := l.isLt; omega
    have hn' : n.toNat ≤ 48 := by rcases hn with e | e | e | e <;> rw [e] <;> decide
    show h.toNat + n.toNat + l.val / 8 < h.toNat + 64; omega)]

section
variable {g : FVec F S1536x512 .f32} {m m' : IVec S1536x128 8} {h : BitVec 32} {s : Vec F S1536x1 .f32} (hh : h = 0#32 ∨ h = 64#32)
  (hm : ∀ (r : Fin 1536) (l : Fin 128), h.toNat ≤ l.val → l.val < h.toNat + 64 → m (ix2 r l) = m' (ix2 r l))
include hh hm
theorem tile0_congr : tile0 g m h s = tile0 g m' h s := by unfold tile0 tile; rw [keep_congr (by decide) hh hm]
theorem tile1_congr : tile1 g m h s = tile1 g m' h s := by unfold tile1 tile; rw [keep_congr (by decide) hh hm]
theorem tile2_congr : tile2 g m h s = tile2 g m' h s := by unfold tile2 tile; rw [keep_congr (by decide) hh hm]
theorem tile3_congr : tile3 g m h s = tile3 g m' h s := by unfold tile3 tile; rw [keep_congr (by decide) hh hm]
theorem dhOut_congr : dhOut g m h s = dhOut g m' h s := by
  unfold dhOut; rw [tile0_congr hh hm, tile1_congr hh hm, tile2_congr hh hm, tile3_congr hh hm]
theorem runOut_congr (run : Vec F S1536x128 .f32) : runOut g m h s run = runOut g m' h s run := by
  unfold runOut; rw [tile0_congr hh hm, tile1_congr hh hm, tile2_congr hh hm, tile3_congr hh hm]
end

/-! ## The proof data of the first call -/

variable (V : (c : Dev nD) → (b : Ref sig .tc) → Buf (Elt F) ((c : Thread nD τ).loc b))

/-- The block window `w` of call 0 stages at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0 holds its block at every point, for proof data that leave it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0 holds its block at every point, for proof data that leave it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of call 0 holds its block at every point, for proof data that leave it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of call 0 holds its block at every point, for proof data that leave it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev p0 : Fin cfg0.N := ⟨0, by rw [N0]; decide⟩
/-- What the first scratch buffer holds from the first point on. -/
def dyb (c : Dev nD) : Vec F S1536x3584 .bf16 := k0_pay4 (iblk0 V c 0 p0)
/-- The mask block of a point, zero past the array's end. -/
def mblk (c : Dev nD) (t : Fin cfg0.N) : Vec F S1536x128 .i8 := win0_2.fill (grid0.coords t) (fun _ => (0#8 : BitVec 8)) (iblk0 V c 2 t)
/-- The product before scaling and masking, one block of 512 columns. -/
def prod (c : Dev nD) (t : Fin cfg0.N) : Vec F S1536x512 .f32 := k0_pay6 (iblk0 V c 3 t) (iblk0 V c 4 t) (dyb V c)
/-- The block point `t` stores. -/
def dhAt (c : Dev nD) (t : Fin cfg0.N) : Vec F S1536x512 .f32 := dhOut (prod V c t) (mblk V c t) (halfWord (grid0.coords t)) (iblk0 V c 1 t)
/-- The running maximum after `n` points. -/
def runAt (c : Dev nD) : ℕ → Vec F S1536x128 .f32
  | 0 => k0_pay5
  | n + 1 => if hn : n < cfg0.N then
      runOut (prod V c ⟨n, hn⟩) (mblk V c ⟨n, hn⟩) (halfWord (grid0.coords ⟨n, hn⟩)) (iblk0 V c 1 ⟨n, hn⟩) (runAt c n) else runAt c n
theorem runAt_succ (c : Dev nD) (t : Fin cfg0.N) : runAt V c (t.val + 1)
    = runOut (prod V c t) (mblk V c t) (halfWord (grid0.coords t)) (iblk0 V c 1 t) (runAt V c t.val) := by
  show (if hn : t.val < cfg0.N then _ else _) = _
  rw [dif_pos t.isLt]

/-- The call's scratch memory and its generator, before the first point and after each point. -/
def Phi0 (c : Dev nD) : (n : ℕ) → sProp 𝕄
  | 0 => Pipeline.ΦA spec0 c
  | n + 1 => iprop(iprop(iprop(owns (c : Thread nD τ) (Memref.whole cc0_scratch0 : Memref sig .tc .vmem S1536x3584 .bf16) fullShare (dyb V c)
      ∗ owns (c : Thread nD τ) (Memref.whole cc0_scratch1 : Memref sig .tc .vmem S1536x128 .f32) fullShare (runAt V c (n + 1)))
      ∗ Pipeline.scopedRestBut (Val := Elt F) (Ix := Unit) (Name := ℕ) (U := UR sig nD τ) (Lvl := ℕ) spec0 c [cc0_scratch0, cc0_scratch1]) ∗ (∃ r, prngReg c r))

theorem PhiA0_eq (c : Dev nD) : (Pipeline.ΦA spec0 c : sProp 𝕄)
    = iprop(iprop(iprop((∃ d, owns (c : Thread nD τ) (Memref.whole cc0_scratch0 : Memref sig .tc .vmem S1536x3584 .bf16) fullShare d)
      ∗ (∃ d, owns (c : Thread nD τ) (Memref.whole cc0_scratch1 : Memref sig .tc .vmem S1536x128 .f32) fullShare d))
      ∗ Pipeline.scopedRestBut (Val := Elt F) (Ix := Unit) (Name := ℕ) (U := UR sig nD τ) (Lvl := ℕ) spec0 c [cc0_scratch0, cc0_scratch1]) ∗ (∃ r, prngReg c r)) := by
  unfold Pipeline.ΦA; rw [scopedRest0_split]; simp only [owns_whole]; try rfl

/-- The first call's proof data, over the arrays as the call finds them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => mblk V c t
    | ⟨3, _⟩ => iblk0 V c 3 t
    | ⟨4, _⟩ => iblk0 V c 4 t
    | ⟨5, _⟩ => dhAt V c t
    | ⟨6, _⟩ => k0_pay3 (runAt V c 37)
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = mblk V c t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = dhAt V c t := by dsimp only [dat0]
theorem after0_6 (c : Dev nD) (t : Fin cfg0.N) : (dat0 V c).after 6 t = k0_pay3 (runAt V c 37) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The mask block is staged every second point; a point finds the array's block there, and something past the array's end. -/
theorem before0_2 (c : Dev nD) (t : Fin cfg0.N) (d) : ∃ e, (dat0 V c).before 2 t d = win0_2.fill (grid0.coords t) e (iblk0 V c 2 t) := by
  cases hf : (cfg0.win 2).fetch t with
  | true =>
    refine ⟨d, ?_⟩
    unfold Dat.before; rw [hf, if_pos rfl]
    unfold Dat.fetched Dat.blockOf iblk0; rw [A_eq0 V c 2]; try rfl
  | false =>
    have hidx : t.val ≠ 0 ∧ ∀ h : 0 < t.val, (cfg0.win 2).index t = (cfg0.win 2).index ⟨t.val - 1, Nat.lt_of_le_of_lt (Nat.sub_le _ _) t.isLt⟩ := by
      have h2 : (!(cfg0.win 2).isOut && (decide (t.val = 0) || decide (∃ h : 0 < t.val, (cfg0.win 2).index t ≠ (cfg0.win 2).index ⟨t.val - 1, Nat.lt_of_le_of_lt (Nat.sub_le _ _) t.isLt⟩))) = false := hf
      rw [show (cfg0.win 2).isOut = false from rfl, Bool.not_false, Bool.true_and, Bool.or_eq_false_iff] at h2
      refine ⟨of_decide_eq_false h2.1, fun h => ?_⟩
      by_contra hne
      exact of_decide_eq_false h2.2 ⟨h, hne⟩
    have hlt : t.val - 1 < cfg0.N := Nat.lt_of_le_of_lt (Nat.sub_le _ _) t.isLt
    have hi := hidx.2 (Nat.pos_of_ne_zero hidx.1)
    refine ⟨d, ?_⟩
    rw [(dat0 V c).before_of_pos 2 t hidx.1 hf d, show (cfg0.win 2).flush ⟨t.val - 1, hlt⟩ = false from rfl, if_neg Bool.false_ne_true]
    unfold Dat.left
    rw [show cfg0.idle 2 (cfg0.grid.coords ⟨t.val - 1, hlt⟩) = false from rfl]
    show (dat0 V c).kept 2 ⟨t.val - 1, hlt⟩ d = _
    unfold Dat.kept
    rw [after0_2]; unfold mblk
    have hcf : (cfg0.win 2).cut (cfg0.grid.coords ⟨t.val - 1, hlt⟩) (win0_2.fill (grid0.coords ⟨t.val - 1, hlt⟩) (fun _ => (0#8 : BitVec 8)) (iblk0 V c 2 ⟨t.val - 1, hlt⟩)) = iblk0 V c 2 ⟨t.val - 1, hlt⟩ := win0_2.cut_fill _ _ _
    rw [hcf]
    have key := (dat0 V c).fetched_congr 2 (t := ⟨t.val - 1, hlt⟩) (t' := t) hi.symm (by
      funext a
      have := congrFun hi.symm a
      show Pipeline.Clip.of (cc0_transform_2 (grid0.coords ⟨t.val - 1, hlt⟩) a) _ _ = Pipeline.Clip.of (cc0_transform_2 (grid0.coords t) a) _ _
      rw [show cc0_transform_2 (grid0.coords ⟨t.val - 1, hlt⟩) a = cc0_transform_2 (grid0.coords t) a from this]) d
    unfold Dat.fetched Dat.blockOf at key
    rw [A_eq0 V c 2] at key
    exact key

theorem mblk_agree (c : Dev nD) (t : Fin cfg0.N) (e : S1536x128.Idx → BitVec 8) (r : Fin 1536) (l : Fin 128) (h0 : (halfWord (grid0.coords t)).toNat ≤ l.val)
    (h1 : l.val < (halfWord (grid0.coords t)).toNat + 64) :
    (win0_2.fill (grid0.coords t) e (iblk0 V c 2 t) : S1536x128.Idx → BitVec 8) (ix2 r l) = mblk V c t (ix2 r l) := by
  have hm : win0_2.moved (grid0.coords t) (ix2 r l) = true := (win0_2.moved_iff _ _).mpr (by
    have hi := half_inside t
    intro a
    match a with
    | ⟨0, _⟩ => exact lt_of_lt_of_eq r.isLt hi.1.symm
    | ⟨1, _⟩ => exact lt_of_lt_of_le h1 hi.2)
  unfold mblk Window.fill
  rw [dif_pos hm, dif_pos hm]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (dat0 V c).leaves 2 t
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leaves 6 t)

theorem Phi0_cast (c : Dev nD) (t : Fin cfg0.N) : (dat0 V c).Φ t.castSucc = Phi0 V c t.val := by
  dsimp only [dat0]; exact Pipeline.Dat.Φ_castSucc (fun n _ => Phi0 V c n) t

/-- The mask's buffer may be left with anything past the array's end. -/
theorem leaves0_2 (c : Dev nD) (t : Fin cfg0.N) : (dat0 V c).leaves 2 t
    = iprop(∃ d, owns (c : Thread nD τ) (st0_2 t) fullShare (win0_2.fill (grid0.coords t) d (iblk0 V c 2 t))) := by
  have h : (dat0 V c).leaves 2 t = iprop(∃ d, owns (c : Thread nD τ) (st0_2 t) fullShare ((cfg0.win 2).fill (cfg0.grid.coords t) d ((cfg0.win 2).cut (cfg0.grid.coords t) ((dat0 V c).after 2 t)))) := rfl
  have hcf : (cfg0.win 2).cut (cfg0.grid.coords t) (mblk V c t) = iblk0 V c 2 t := win0_2.cut_fill _ _ _
  rw [h, after0_2, hcf]; try rfl

theorem leaves0_6_idle (c : Dev nD) (t : Fin cfg0.N) (ht : t.val ≠ 36) : (dat0 V c).leaves 6 t
    = iprop(∃ d, owns (c : Thread nD τ) (st0_6 t) fullShare ((dat0 V c).before 6 t d)) := by
  have hN : t.val < 37 := lt_of_lt_of_eq t.isLt N0
  refine (dat0 V c).leaves_idle 6 t ?_ ?_
  · have h : ¬ k0_cond2 (grid0.coords t) = 1#1 := fun h => ht (by have := (last0_iff t).mp h; omega)
    show (!(k0_cond2 (grid0.coords t) == 1#1)) = true
    rw [Bool.not_eq_true', beq_eq_false_iff_ne]; exact h
  · rw [← Bool.not_eq_true]; exact fun h => ht (by have := (flush0_6 t).mp h; omega)

theorem leaves0_6_last (c : Dev nD) (t : Fin cfg0.N) (ht : t.val = 36) : (dat0 V c).leaves 6 t
    = owns (c : Thread nD τ) (st0_6 t) fullShare ((dat0 V c).after 6 t) := by
  have h : k0_cond2 (grid0.coords t) = 1#1 := (last0_iff t).mpr (by omega)
  have hi : cfg0.idle 6 (cfg0.grid.coords t) = false := by
    show (!(k0_cond2 (grid0.coords t) == 1#1)) = false
    rw [h, beq_self_eq_true, Bool.not_true]
  unfold Dat.leaves; rw [hi]

set_option maxHeartbeats 1000000 in
/-- The body at any point, by the three triples above. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_3, before0_4]
  rw [show (dat0 V c).owesAt () t.succ = (dat0 V c).owesAt () t.castSucc from rfl,
    after0_0, after0_1, after0_3, after0_4, after0_5, leaves0_2]
  rw [show (dat0 V c).Φ t.succ = Phi0 V c (t.val + 1) from rfl, Phi0_cast]
  have hN : t.val < 37 := lt_of_lt_of_eq t.isLt N0
  have hdh : ∀ e : S1536x128.Idx → BitVec 8, dhOut (k0_pay6 (iblk0 V c 3 t) (iblk0 V c 4 t) (dyb V c)) (win0_2.fill (grid0.coords t) e (iblk0 V c 2 t)) (halfWord (grid0.coords t)) (iblk0 V c 1 t) = dhAt V c t :=
    fun e => dhOut_congr (halfWord_or t) (mblk_agree V c t e)
  have hrun : ∀ e : S1536x128.Idx → BitVec 8, runOut (k0_pay6 (iblk0 V c 3 t) (iblk0 V c 4 t) (dyb V c)) (win0_2.fill (grid0.coords t) e (iblk0 V c 2 t)) (halfWord (grid0.coords t)) (iblk0 V c 1 t) (runAt V c t.val) = runAt V c (t.val + 1) :=
    fun e => (runOut_congr (halfWord_or t) (mblk_agree V c t e) _).trans (runAt_succ V c t).symm
  by_cases h0 : t.val = 0
  · have hf : first0 (grid0.coords t) := (first0_iff t).mpr (by omega)
    have hl : ¬ k0_cond2 (grid0.coords t) = 1#1 := fun h => by have := (last0_iff t).mp h; omega
    have ht : t = p0 := Fin.ext h0
    have hdy : k0_pay4 (iblk0 V c 0 t) = dyb V c := by unfold dyb; rw [ht]
    have hrun : ∀ e : S1536x128.Idx → BitVec 8, runOut (k0_pay6 (iblk0 V c 3 t) (iblk0 V c 4 t) (dyb V c)) (win0_2.fill (grid0.coords t) e (iblk0 V c 2 t)) (halfWord (grid0.coords t)) (iblk0 V c 1 t) k0_pay5 = runAt V c (t.val + 1) :=
      fun e => by rw [← hrun e, h0]; rfl
    rw [leaves0_6_idle V c t (by omega), show Phi0 V c t.val = Pipeline.ΦA spec0 c by rw [h0]; rfl, PhiA0_eq]
    unfold Phi0
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
    obtain ⟨e, he⟩ := before0_2 V c t d2
    rw [he]
    have hdh := hdh e
    have hrun := hrun e
    iapply (sound_first0 c Set.univ (grid0.coords t) _ _ _ _ _ _ _ _ _ _ _ _ _ _ _ _ _ _ hf hl (iblk0 V c 0 t) (iblk0 V c 1 t) (win0_2.fill (grid0.coords t) e (iblk0 V c 2 t)) (iblk0 V c 3 t) (iblk0 V c 4 t) ((dat0 V c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    rw [hdy, hdh, hrun]
    iintro ⟨H0, H1, H2, H3, H4, H5, H6, HS0, HS1⟩
    isplitl [HS0 HS1 HB Hg]
    · isplitl [HS0 HS1 HB]
      · isplitl [HS0 HS1]
        · isplitl [HS0]
          · iexact HS0
          iexact HS1
        iexact HB
      iexact Hg
    isplitl [Ho]; · iexact Ho
    isplitl [H0]; · iexact H0
    isplitl [H1]; · iexact H1
    isplitl [H2]; · iexists _; iexact H2
    isplitl [H3]; · iexact H3
    isplitl [H4]; · iexact H4
    isplitl [H5]; · iexact H5
    iexists _; iexact H6
  · have hf : ¬ first0 (grid0.coords t) := fun h => h0 (by have := (first0_iff t).mp h; omega)
    have hPhi : Phi0 V c t.val = iprop(iprop(iprop(owns (c : Thread nD τ) (Memref.whole cc0_scratch0 : Memref sig .tc .vmem S1536x3584 .bf16) fullShare (dyb V c)
      ∗ owns (c : Thread nD τ) (Memref.whole cc0_scratch1 : Memref sig .tc .vmem S1536x128 .f32) fullShare (runAt V c t.val))
      ∗ Pipeline.scopedRestBut (Val := Elt F) (Ix := Unit) (Name := ℕ) (U := UR sig nD τ) (Lvl := ℕ) spec0 c [cc0_scratch0, cc0_scratch1]) ∗ (∃ r, prngReg c r)) := by
      obtain ⟨n, hn⟩ : ∃ n, t.val = n + 1 := ⟨t.val - 1, by omega⟩
      rw [hn]; rfl
    rw [hPhi]
    by_cases h36 : t.val = 36
    · have hl : k0_cond2 (grid0.coords t) = 1#1 := (last0_iff t).mpr (by omega)
      rw [leaves0_6_last V c t h36, after0_6, show runAt V c 37 = runAt V c (t.val + 1) by rw [h36]]
      unfold Phi0
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
      obtain ⟨e, he⟩ := before0_2 V c t d2
      rw [he]
      have hdh := hdh e
      have hrun := hrun e
      iapply (sound_last0 c Set.univ (grid0.coords t) _ _ _ _ _ _ _ _ _ _ _ _ _ _ _ _ _ _ hf hl (iblk0 V c 0 t) (iblk0 V c 1 t) (win0_2.fill (grid0.coords t) e (iblk0 V c 2 t)) (iblk0 V c 3 t) (iblk0 V c 4 t) (dyb V c) (runAt V c t.val) _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      rw [hdh, hrun]
      iintro ⟨H0, H1, H2, H3, H4, H5, H6, HS0, HS1⟩
      isplitl [HS0 HS1 HB Hg]
      · isplitl [HS0 HS1 HB]
        · isplitl [HS0 HS1]
          · isplitl [HS0]
            · iexact HS0
            iexact HS1
          iexact HB
        iexact Hg
      isplitl [Ho]; · iexact Ho
      isplitl [H0]; · iexact H0
      isplitl [H1]; · iexact H1
      isplitl [H2]; · iexists _; iexact H2
      isplitl [H3]; · iexact H3
      isplitl [H4]; · iexact H4
      isplitl [H5]; · iexact H5
      iexact H6
    · have hl : ¬ k0_cond2 (grid0.coords t) = 1#1 := fun h => h36 (by have := (last0_iff t).mp h; omega)
      rw [leaves0_6_idle V c t h36]
      unfold Phi0
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
      obtain ⟨e, he⟩ := before0_2 V c t d2
      rw [he]
      have hdh := hdh e
      have hrun := hrun e
      iapply (sound_mid0 c Set.univ (grid0.coords t) _ _ _ _ _ _ _ _ _ _ _ _ _ _ _ _ _ _ hf hl (iblk0 V c 0 t) (iblk0 V c 1 t) (win0_2.fill (grid0.coords t) e (iblk0 V c 2 t)) (iblk0 V c 3 t) (iblk0 V c 4 t) (dyb V c) (runAt V c t.val) ((dat0 V c).before 6 t d6) _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      rw [hdh, hrun]
      iintro ⟨H0, H1, H2, H3, H4, H5, H6, HS0, HS1⟩
      isplitl [HS0 HS1 HB Hg]
      · isplitl [HS0 HS1 HB]
        · isplitl [HS0 HS1]
          · isplitl [HS0]
            · iexact HS0
            iexact HS1
          iexact HB
        iexact Hg
      isplitl [Ho]; · iexact Ho
      isplitl [H0]; · iexact H0
      isplitl [H1]; · iexact H1
      isplitl [H2]; · iexists _; iexact H2
      isplitl [H3]; · iexact H3
      isplitl [H4]; · iexact H4
      isplitl [H5]; · iexact H5
      iexists _; iexact H6

theorem defs₀_row0 (t : Fin cfg0.N) :
    defs₀ (F := F) .tc cfg0.body (cfg0.bodyArgs t (cfg0.slots t)) = bodyAt0 t := by
  unfold defs₀; rw [Defs.onTc_tc]

/-- The body obligation of the first call. -/
theorem body_obligation0 (c : Dev nD) : BodyObligationLoose (dat0 (F := F) V c) (defs₀ (F := F)) Variants.none () Set.univ := fun t => by
  rw [bigSep_W0, bigSep_W0, defs₀_row0]
  exact triple_restated (sound_body0 V c t) rfl .rfl fun _ => .rfl

/-- After the last point the scratch contents are forgotten. -/
theorem Phi0_out (c : Dev nD) : (dat0 V c).Φ (Fin.last cfg0.N) ⊢ Pipeline.ΦA spec0 c := by
  have e : (dat0 V c).Φ (Fin.last cfg0.N) = Phi0 V c (36 + 1) := by
    show Phi0 V c (Fin.last cfg0.N).val = _
    rw [Fin.val_last, N0]
  rw [e, PhiA0_eq]
  unfold Phi0
  iintro ⟨⟨⟨HS0, HS1⟩, HB⟩, Hg⟩
  isplitl [HS0 HS1 HB]
  · isplitl [HS0 HS1]
    · isplitl [HS0]
      · iexists _; iexact HS0
      iexists _; iexact HS1
    iexact HB
  iexact Hg

end Cert.Kernel.Whole

end
-- ==== Proof.Bits.Run.lean ====
module

public import proofs.«01_k».proof.Proof.Bits.Dh
public import proofs.«01_k».proof.Proof.Bits.Dw
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-! ## The buffers at each boundary of the program -/

/-- Core `c`'s buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev V1 : (c : Dev nD) → (b : Ref sig .tc) → Buf (Elt F) ((c : Thread nD τ).loc b) := fun c b => W1 m c b

/-- After call 0: its arrays as its write-backs leave them, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is no output array of call 0 keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After call 1: its arrays as its write-backs leave them, every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is no output array of call 1 keeps its contents across it. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After `hostOps2`. -/
abbrev W4 : Dev nD → Valuation τ sig (Elt F) := fun c => StableHlo.after hostOps2 (W3 m c)
theorem W4_of (c : Dev nD) (r : Ref sig .tc) (h : r ∉ hostOps2_W) : W4 m c (Proc.devRef .tc r) = W3 m c (Proc.devRef .tc r) :=
  StableHlo.after_of_writes_sub hostOps2 _ hostOps2_writes h
theorem W4_args (c : Dev nD) : ∀ a ∈ argRefs, W4 m c (Proc.devRef .tc a) = m ((c : Thread nD τ).loc a) :=
  fun a ha => (W4_of m c a (hostOps2_args a ha)).trans (W3_args m c a ha)
abbrev V4 : (c : Dev nD) → (b : Ref sig .tc) → Buf (Elt F) ((c : Thread nD τ).loc b) := fun c b => W4 m c b

/-- After call 2: its arrays as its write-backs leave them, every other buffer as before. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- A reference that is no output array of call 2 keeps its contents across it. -/
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (V4 m) c).arrAt_in w (h w rfl) _).trans (A_eq2 (V4 m) c w))
  · exact W5_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m c (Proc.devRef .tc a) = m ((c : Thread nD τ).loc a) :=
  fun a ha => (W5_of m c a (argsIn2 a ha)).trans (W4_args m c a ha)
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The results, each as the call that stores it leaves it -/

theorem W5_main_v9_0 (c : Dev nD) : W5 m c (Proc.devRef .tc main_v9_0) = (dat2 (V4 m) c).arrAt 4 cfg2.N := W5_arr m c 4
theorem W5_main_v9_1 (c : Dev nD) : W5 m c (Proc.devRef .tc main_v9_1) = (dat2 (V4 m) c).arrAt 5 cfg2.N := W5_arr m c 5
theorem W3_main_v7_0 (c : Dev nD) : W3 m c (Proc.devRef .tc main_v7_0) = (dat1 (V2 m) c).arrAt 6 cfg1.N := W3_arr m c 6
theorem W3_main_v7_1 (c : Dev nD) : W3 m c (Proc.devRef .tc main_v7_1) = (dat1 (V2 m) c).arrAt 7 cfg1.N := W3_arr m c 7
theorem W4_main_v7_0 (c : Dev nD) : W4 m c (Proc.devRef .tc main_v7_0) = (dat1 (V2 m) c).arrAt 6 cfg1.N :=
  (W4_of m c main_v7_0 (by decide)).trans (W3_main_v7_0 m c)
theorem W4_main_v7_1 (c : Dev nD) : W4 m c (Proc.devRef .tc main_v7_1) = (dat1 (V2 m) c).arrAt 7 cfg1.N :=
  (W4_of m c main_v7_1 (by decide)).trans (W3_main_v7_1 m c)
theorem W5_main_v7_0 (c : Dev nD) : W5 m c (Proc.devRef .tc main_v7_0) = (dat1 (V2 m) c).arrAt 6 cfg1.N :=
  (W5_of m c main_v7_0 (by decide)).trans (W4_main_v7_0 m c)
theorem W5_main_v7_1 (c : Dev nD) : W5 m c (Proc.devRef .tc main_v7_1) = (dat1 (V2 m) c).arrAt 7 cfg1.N :=
  (W5_of m c main_v7_1 (by decide)).trans (W4_main_v7_1 m c)
theorem W2_main_v6_0 (c : Dev nD) : W2 m c (Proc.devRef .tc main_v6_0) = (dat0 (V1 m) c).arrAt 5 cfg0.N := W2_arr m c 5
theorem W2_main_v6_1 (c : Dev nD) : W2 m c (Proc.devRef .tc main_v6_1) = (dat0 (V1 m) c).arrAt 6 cfg0.N := W2_arr m c 6
theorem W4_main_v6_1 (c : Dev nD) : W4 m c (Proc.devRef .tc main_v6_1) = (dat0 (V1 m) c).arrAt 6 cfg0.N :=
  (W4_of m c main_v6_1 (by decide)).trans ((W3_of m c main_v6_1 (by decide)).trans (W2_main_v6_1 m c))

/-! ## The proof data family and the thread state -/

abbrev adm : (p : Fin 3) → (pcfgs (F := F) p).Adm := fun p => (cfgs p).toPCfg_adm
/-- Every call's proof data, each at the contents it is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- Call 0, entered with every buffer at `W1` and left with every buffer at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_out (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, entered with every buffer at `W2` and left with every buffer at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2, entered with every buffer at `W4` and left with every buffer at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) (A_eq2 (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- The run of the whole program: every fair execution ends, nothing faulting; the argument arrays are as launched, the
    four results as the calls' write-backs leave them, and every semaphore counter is zero. -/
theorem run : θ_run defs (onTc (τ := τ) (main (F := F))) ⟨m, fun _ => 0, ρ⟩ (fun r => (∀ c : Dev nD,
      (r.2.mem ((c.tc : Thread nD τ).loc main_v9_0) = (dat2 (V4 m) c).arrAt 4 cfg2.N
      ∧ r.2.mem ((c.tc : Thread nD τ).loc main_v7_0) = (dat1 (V2 m) c).arrAt 6 cfg1.N
      ∧ r.2.mem ((c.tc : Thread nD τ).loc main_v7_1) = (dat1 (V2 m) c).arrAt 7 cfg1.N
      ∧ r.2.mem ((c.tc : Thread nD τ).loc main_v9_1) = (dat2 (V4 m) c).arrAt 5 cfg2.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨(fun c =>
      ⟨⟨(h c _ (mem_uc main_v9_0 (by decide))).trans (W5_main_v9_0 m c),
        (h c _ (mem_uc main_v7_0 (by decide))).trans (W5_main_v7_0 m c),
        (h c _ (mem_uc main_v7_1 (by decide))).trans (W5_main_v7_1 m c),
        (h c _ (mem_uc main_v9_1 (by decide))).trans (W5_main_v9_1 m c)⟩,
       (h c _ (mem_uc main_arg0 (by decide))).trans (W5_args m c main_arg0 (by decide)),
       (h c _ (mem_uc main_arg1 (by decide))).trans (W5_args m c main_arg1 (by decide)),
       (h c _ (mem_uc main_arg2 (by decide))).trans (W5_args m c main_arg2 (by decide)),
       (h c _ (mem_uc main_arg3 (by decide))).trans (W5_args m c main_arg3 (by decide)),
       (h c _ (mem_uc main_arg4 (by decide))).trans (W5_args m c main_arg4 (by decide)),
       (h c _ (mem_uc main_arg5 (by decide))).trans (W5_args m c main_arg5 (by decide)),
       (h c _ (mem_uc main_arg6 (by decide))).trans (W5_args m c main_arg6 (by decide)),
       (h c _ (mem_uc main_arg7 (by decide))).trans (W5_args m c main_arg7 (by decide)),
       (h c _ (mem_uc main_arg8 (by decide))).trans (W5_args m c main_arg8 (by decide))⟩), funext fun g => hz g (.inr (no_unscoped g.2))⟩)

/-- The frame alone: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run m ρ)

end Cert.Kernel.Whole

end
-- ==== Proof.Num.lean ====
module

public import Idealize.ShloMosaic.PureOps.Ideal.Laws
public import Idealize.ShloMosaic.Lib.ValueIdx
public import Idealize.ShloMosaic.Lib.IndicatorCount

@[expose] public section

noncomputable section

namespace Cert.Num

open Idealize.ShloMosaic

/-- The fields of the pattern `k <<< 23`: sign 0, exponent `k`, fraction 0. -/
theorem fields : ∀ k : Fin 256, ((BitVec.ofNat 32 k.val <<< (23 : ℕ)).extractLsb' 31 1 == 1#1) = false
    ∧ ((BitVec.ofNat 32 k.val <<< (23 : ℕ)).extractLsb' 23 8).toNat = k.val
    ∧ ((BitVec.ofNat 32 k.val <<< (23 : ℕ)).extractLsb' 0 23).toNat = 0 := by decide +kernel

/-- A pattern with sign 0, exponent field `k` and fraction 0 is the power of two `2 ^ (k - 127)`. -/
theorem ieee_pow (b : BitVec 32) (k : ℕ) (h0 : 0 < k) (h : k < 255) (e1 : (b.extractLsb' 31 1 == 1#1) = false)
    (e2 : (b.extractLsb' 23 8).toNat = k) (e3 : (b.extractLsb' 0 23).toNat = 0) :
    Ideal.ieee 8 23 b = (((2 : ℝ) ^ ((k : ℤ) - 127) : ℝ) : EReal) := by
  have h2 : (2 : ℝ) ≠ 0 := by norm_num
  have hk : k ≠ 2 ^ 8 - 1 := by omega
  have hk0 : k ≠ 0 := by omega
  unfold Ideal.ieee
  simp only [show (8 + 23 : ℕ) = 31 from rfl, e1, e2, e3, hk, hk0, if_false, Bool.false_eq_true]
  congr 1
  rw [one_mul, Nat.add_zero, Nat.cast_pow, Nat.cast_ofNat, ← zpow_natCast (2 : ℝ) 23, ← zpow_add₀ h2]
  congr 1
  push_cast
  norm_num

/-- A pattern with exponent field `k` and nothing else is the power of two `2 ^ (k - 127)`. -/
theorem ofBits_pow (k : ℕ) (h0 : 0 < k) (h : k < 255) :
    Ideal.ofBits .f32 (BitVec.ofNat 32 k <<< (23 : ℕ)) = (((2 : ℝ) ^ ((k : ℤ) - 127) : ℝ) : EReal) :=
  have e := fields ⟨k, by omega⟩
  ieee_pow _ k h0 h e.1 e.2.1 e.2.2

/-- The factor that a row's greatest magnitude is multiplied by: 1 / 57344, rounded to 24 bits. -/
abbrev C : EReal := Ideal.ofBits .f32 0x37924925#32

/-- The powers of two counted for a value: those from `2 ^ -126` to `2 ^ 126` at or below it. -/
def bit (q : EReal) (k : Fin 256) : BitVec 1 :=
  ((IntOp.cmpi .sgt (BitVec.ofNat 32 k.val) 0#32) &&& (IntOp.cmpi .slt (BitVec.ofNat 32 k.val) 254#32))
    &&& Ideal.cmp .oge q (Ideal.ofBits .f32 (BitVec.ofNat 32 k.val <<< (23 : ℕ)))

/-- Their number, as a word. -/
def field (q : EReal) : BitVec 32 := Finset.univ.fold IntOp.addi (0#32) fun k : Fin 256 => (bit q k).setWidth 32

/-- The exponent that the kernel takes from the count. -/
def eword (q : EReal) : BitVec 32 :=
  Scalar.select (IntOp.cmpi .eq (field q) 0#32 ||| IntOp.cmpi .eq (field q) 253#32) 0#32 (field q - 126#32)

/-- The power of two whose exponent is the word `e`, by its bits. -/
def pow2 (e : BitVec 32) : EReal := Ideal.ofBits .f32 ((e + 127#32) <<< (23 : ℕ))

/-- The exponent of a value as the problem states it: of `q = m * 2 ^ e` with `1/2 ≤ m < 1`, and 0 for a value
    outside `[2 ^ -126, 2 ^ 126)`. -/
def expo (q : EReal) : EReal :=
  Scalar.select (Ideal.cmp .oge q (Ideal.ofBits .f32 0x00800000#32) &&& Ideal.cmp .olt q (Ideal.ofBits .f32 0x7E800000#32))
    (Ideal.liftRound Int.floor (Ideal.div (Ideal.log q) (Ideal.log (Ideal.ofBits .f32 0x40000000#32))) + Ideal.ofBits .f32 0x3F800000#32)
    (Ideal.ofBits .f32 0x00000000#32)

theorem word_range : ∀ k : Fin 256, ((IntOp.cmpi .sgt (BitVec.ofNat 32 k.val) 0#32) &&& (IntOp.cmpi .slt (BitVec.ofNat 32 k.val) 254#32))
    = BitVec.ofBool (decide (0 < k.val ∧ k.val < 254)) := by decide +kernel

theorem bit_iff (q : EReal) (k : Fin 256) : bit q k = 1#1 ↔ (0 < k.val ∧ k.val < 254) ∧ (((2 : ℝ) ^ ((k.val : ℤ) - 127) : ℝ) : EReal) ≤ q := by
  unfold bit
  rw [word_range]
  by_cases h : 0 < k.val ∧ k.val < 254
  · rw [ofBits_pow k.val h.1 (by omega)]
    unfold Ideal.cmp
    by_cases h2 : (((2 : ℝ) ^ ((k.val : ℤ) - 127) : ℝ) : EReal) ≤ q
    · simp [h, h2]
    · simp [h, h2]
  · have : decide (0 < k.val ∧ k.val < 254) = false := decide_eq_false h
    rw [this]
    constructor
    · intro h1
      exfalso
      have : (BitVec.ofBool false &&& Ideal.cmp .oge q (Ideal.ofBits .f32 (BitVec.ofNat 32 k.val <<< (23 : ℕ)))) = 0#1 := by
        show (0#1 &&& _) = 0#1
        exact BitVec.zero_and
      rw [this] at h1
      exact absurd h1 (by decide)
    · intro h1; exact absurd h1.1 h

theorem field_eq (q : EReal) : field q = BitVec.ofNat 32 ((Finset.univ : Finset (Fin 256)).filter fun k => bit q k = 1#1).card :=
  IndicatorCount.fold_addi_setWidth_eq_card _ _

/-- The count when exactly the first `n` powers are at or below the value. -/
theorem field_of (q : EReal) (n : ℕ) (hn : n ≤ 253)
    (h : ∀ k : ℕ, 0 < k → k < 254 → ((((2 : ℝ) ^ ((k : ℤ) - 127) : ℝ) : EReal) ≤ q ↔ k ≤ n)) : field q = BitVec.ofNat 32 n := by
  rw [field_eq]
  congr 1
  have e : ((Finset.univ : Finset (Fin 256)).filter fun k => bit q k = 1#1)
      = (Finset.Icc 1 n).attachFin (fun k hk => by have := (Finset.mem_Icc.mp hk).2; omega) := by
    ext k
    rw [Finset.mem_filter, Finset.mem_attachFin, Finset.mem_Icc, bit_iff]
    constructor
    · rintro ⟨-, ⟨h1, h2⟩, h3⟩
      exact ⟨h1, (h k.val h1 h2).mp h3⟩
    · rintro ⟨h1, h2⟩
      exact ⟨Finset.mem_univ _, ⟨h1, by omega⟩, (h k.val h1 (by omega)).mpr h2⟩
  rw [e, Finset.card_attachFin]
  simp

theorem pow_strict {a b : ℤ} : (2 : ℝ) ^ a ≤ (2 : ℝ) ^ b ↔ a ≤ b := zpow_le_zpow_iff_right₀ (by norm_num)

theorem lit_lo : Ideal.ofBits .f32 0x00800000#32 = (((2 : ℝ) ^ (-126 : ℤ) : ℝ) : EReal) := by
  have := ofBits_pow 1 (by decide) (by decide)
  simpa using this
theorem lit_hi : Ideal.ofBits .f32 0x7E800000#32 = (((2 : ℝ) ^ (126 : ℤ) : ℝ) : EReal) := by
  have := ofBits_pow 253 (by decide) (by decide)
  simpa using this
theorem lit_one : Ideal.ofBits .f32 0x3F800000#32 = ((1 : ℝ) : EReal) := by
  have := ofBits_pow 127 (by decide) (by decide)
  simpa using this
theorem lit_two : Ideal.ofBits .f32 0x40000000#32 = ((2 : ℝ) : EReal) := by
  have := ofBits_pow 128 (by decide) (by decide)
  simpa using this
theorem lit_zero : Ideal.ofBits .f32 0x00000000#32 = 0 := Ideal.ofBits_zero_f32

/-- Outside the range the count is 0 or 253 and both exponents are 0. -/
theorem field_low (q : EReal) (h : ¬ (((2 : ℝ) ^ (-126 : ℤ) : ℝ) : EReal) ≤ q) : field q = 0#32 := by
  refine field_of q 0 (by decide) fun k h0 h1 => ⟨fun hk => ?_, fun hk => by omega⟩
  exact absurd (le_trans (EReal.coe_le_coe_iff.mpr (pow_strict.mpr (by omega))) hk) h
theorem field_high (q : EReal) (h : (((2 : ℝ) ^ (126 : ℤ) : ℝ) : EReal) ≤ q) : field q = 253#32 := by
  refine field_of q 253 (by decide) fun k h0 h1 => ⟨fun hk => by omega, fun hk => ?_⟩
  exact le_trans (EReal.coe_le_coe_iff.mpr (pow_strict.mpr (by omega))) h

theorem expo_out (q : EReal) (h : ¬ ((((2 : ℝ) ^ (-126 : ℤ) : ℝ) : EReal) ≤ q ∧ q < (((2 : ℝ) ^ (126 : ℤ) : ℝ) : EReal))) : expo q = ((0 : ℤ) : ℝ) := by
  unfold expo
  rw [lit_lo, lit_hi, lit_zero]
  unfold Ideal.cmp
  by_cases h1 : (((2 : ℝ) ^ (-126 : ℤ) : ℝ) : EReal) ≤ q
  · have h2 : ¬ q < (((2 : ℝ) ^ (126 : ℤ) : ℝ) : EReal) := fun h2 => h ⟨h1, h2⟩
    simp only [h1, h2, decide_true, decide_false]
    show Scalar.select 0#1 _ _ = _
    rw [ValueIdx.select_zero]; simp
  · simp only [h1, decide_false]
    have : (BitVec.ofBool false &&& BitVec.ofBool (decide (q < (((2 : ℝ) ^ (126 : ℤ) : ℝ) : EReal)))) = 0#1 := BitVec.zero_and
    rw [this, ValueIdx.select_zero]; simp

theorem eword_of_zero (q : EReal) (h : field q = 0#32 ∨ field q = 253#32) : eword q = 0#32 := by
  unfold eword
  rcases h with h | h <;> rw [h] <;> rfl

/-- Inside the range the count is the floor of the binary logarithm plus 127. -/
theorem field_mid (r : ℝ) (h1 : (2 : ℝ) ^ (-126 : ℤ) ≤ r) (h2 : r < (2 : ℝ) ^ (126 : ℤ)) :
    ∃ n : ℤ, -126 ≤ n ∧ n ≤ 125 ∧ field (r : EReal) = BitVec.ofNat 32 (n + 127).toNat ∧ ⌊Real.log r / Real.log 2⌋ = n := by
  have hr : 0 < r := lt_of_lt_of_le (by positivity) h1
  have hl2 : 0 < Real.log 2 := Real.log_pos (by norm_num)
  obtain ⟨n, hn⟩ : ∃ n : ℤ, ⌊Real.log r / Real.log 2⌋ = n := ⟨_, rfl⟩
  have hl : (2 : ℝ) ^ n ≤ r := by
    have := Int.floor_le (Real.log r / Real.log 2)
    rw [hn, le_div_iff₀ hl2, ← Real.log_zpow] at this
    exact (Real.log_le_log_iff (by positivity) hr).mp this
  have hu : r < (2 : ℝ) ^ (n + 1) := by
    have := Int.lt_floor_add_one (Real.log r / Real.log 2)
    rw [hn, div_lt_iff₀ hl2] at this
    have h3 : ((n : ℝ) + 1) = ((n + 1 : ℤ) : ℝ) := by push_cast; rfl
    rw [h3, ← Real.log_zpow] at this
    exact (Real.log_lt_log_iff hr (by positivity)).mp this
  have hlo : -126 ≤ n := by
    have := lt_of_le_of_lt h1 hu
    have := (zpow_lt_zpow_iff_right₀ (by norm_num : (1 : ℝ) < 2)).mp this
    omega
  have hhi : n ≤ 125 := by
    have := lt_of_le_of_lt hl h2
    have := (zpow_lt_zpow_iff_right₀ (by norm_num : (1 : ℝ) < 2)).mp this
    omega
  refine ⟨n, hlo, hhi, ?_, hn⟩
  · refine field_of _ _ (by omega) fun k h0 h254 => ?_
    rw [EReal.coe_le_coe_iff]
    constructor
    · intro hk
      have := (zpow_lt_zpow_iff_right₀ (by norm_num : (1 : ℝ) < 2)).mp (lt_of_le_of_lt hk hu)
      omega
    · intro hk
      exact le_trans (pow_strict.mpr (by omega)) hl

theorem expo_mid (r : ℝ) (h1 : (2 : ℝ) ^ (-126 : ℤ) ≤ r) (h2 : r < (2 : ℝ) ^ (126 : ℤ)) :
    expo (r : EReal) = (((⌊Real.log r / Real.log 2⌋ + 1 : ℤ) : ℝ) : EReal) := by
  have hr : 0 < r := lt_of_lt_of_le (by positivity) h1
  have hl2 : Real.log 2 ≠ 0 := (Real.log_pos (by norm_num)).ne'
  unfold expo
  rw [lit_lo, lit_hi, lit_one, lit_two]
  unfold Ideal.cmp
  simp only [EReal.coe_le_coe_iff, EReal.coe_lt_coe_iff, h1, h2, decide_true]
  show Scalar.select 1#1 _ _ = _
  rw [ValueIdx.select_one]
  have e1 : Ideal.log (r : EReal) = ((Real.log r : ℝ) : EReal) := by
    show (if r ≤ 0 then (⊥ : EReal) else _) = _
    rw [if_neg (by linarith)]
  have e2 : Ideal.log ((2 : ℝ) : EReal) = ((Real.log 2 : ℝ) : EReal) := by
    show (if (2 : ℝ) ≤ 0 then (⊥ : EReal) else _) = _
    rw [if_neg (by norm_num)]
  rw [e1, e2]
  have e3 : Ideal.div ((Real.log r : ℝ) : EReal) ((Real.log 2 : ℝ) : EReal) = ((Real.log r / Real.log 2 : ℝ) : EReal) := by
    unfold Ideal.div
    rw [if_neg (by exact_mod_cast hl2), ← EReal.coe_inv, ← EReal.coe_mul, div_eq_mul_inv]
  rw [e3]
  show ((⌊Real.log r / Real.log 2⌋ : ℝ) : EReal) + ((1 : ℝ) : EReal) = _
  rw [← EReal.coe_add]
  congr 1
  push_cast
  ring

theorem pow2_of (n : ℤ) (h0 : -126 ≤ n) (h1 : n ≤ 127) (e : BitVec 32) (he : e + 127#32 = BitVec.ofNat 32 (n + 127).toNat) :
    pow2 e = Ideal.exp2 (((n : ℤ) : ℝ) : EReal) := by
  unfold pow2
  rw [he, ofBits_pow _ (by omega) (by omega)]
  show _ = ((Real.rpow 2 (n : ℝ) : ℝ) : EReal)
  congr 1
  rw [show Real.rpow 2 (n : ℝ) = (2 : ℝ) ^ (n : ℝ) from rfl, Real.rpow_intCast]
  congr 1
  omega

theorem words : ∀ k : Fin 256, 0 < k.val → k.val < 253 →
    ((if k.val = 0 ∨ k.val = 253 then 0#32 else BitVec.ofNat 32 k.val - 126#32) + 127#32 = BitVec.ofNat 32 (k.val + 1))
    ∧ (0#32 - (BitVec.ofNat 32 k.val - 126#32) + 127#32 = BitVec.ofNat 32 (253 - k.val))
    ∧ (IntOp.cmpi .eq (BitVec.ofNat 32 k.val) 0#32 ||| IntOp.cmpi .eq (BitVec.ofNat 32 k.val) 253#32) = 0#1 := by decide +kernel

/-- **The kernel's scale is two to the exponent that the problem states**, and its inverse two to the opposite. -/
theorem scale_eq (q : EReal) : pow2 (eword q) = Ideal.exp2 (expo q) ∧ pow2 (0#32 - eword q) = Ideal.exp2 (0 - expo q) := by
  by_cases h : (((2 : ℝ) ^ (-126 : ℤ) : ℝ) : EReal) ≤ q ∧ q < (((2 : ℝ) ^ (126 : ℤ) : ℝ) : EReal)
  · obtain ⟨r, rfl⟩ : ∃ r : ℝ, q = (r : EReal) := by
      induction q using EReal.rec with
      | bot => exact absurd (le_bot_iff.mp h.1) (EReal.coe_ne_bot _)
      | top => exact absurd h.2 (not_lt.mpr le_top)
      | coe r => exact ⟨r, rfl⟩
    have h1 := EReal.coe_le_coe_iff.mp h.1
    have h2 := EReal.coe_lt_coe_iff.mp h.2
    obtain ⟨n, hlo, hhi, hf, hn⟩ := field_mid r h1 h2
    rw [expo_mid r h1 h2, hn]
    obtain ⟨w1, w2, w3⟩ := words ⟨(n + 127).toNat, by omega⟩ (by show 0 < (n + 127).toNat; omega) (by show (n + 127).toNat < 253; omega)
    simp only at w1 w2 w3
    rw [if_neg (by omega)] at w1
    have he : eword (r : EReal) = BitVec.ofNat 32 (n + 127).toNat - 126#32 := by
      unfold eword
      rw [hf, w3, ValueIdx.select_zero]
    rw [he]
    constructor
    · exact pow2_of (n + 1) (by omega) (by omega) _ (by rw [w1]; congr 1; omega)
    · have : (0 : EReal) - (((n + 1 : ℤ) : ℝ) : EReal) = (((-(n + 1) : ℤ) : ℝ) : EReal) := by
        rw [zero_sub, ← EReal.coe_neg]; push_cast; rfl
      rw [this]
      exact pow2_of (-(n + 1)) (by omega) (by omega) _ (by rw [w2]; congr 1; omega)
  · rw [expo_out q h]
    have he : eword q = 0#32 := by
      refine eword_of_zero q ?_
      by_cases h1 : (((2 : ℝ) ^ (-126 : ℤ) : ℝ) : EReal) ≤ q
      · exact .inr (field_high q (not_lt.mp fun h2 => h ⟨h1, h2⟩))
      · exact .inl (field_low q h1)
    rw [he]
    constructor
    · exact pow2_of 0 (by decide) (by decide) _ rfl
    · have : (0 : EReal) - (((0 : ℤ) : ℝ) : EReal) = (((0 : ℤ) : ℝ) : EReal) := by simp
      rw [this]
      exact pow2_of 0 (by decide) (by decide) _ rfl

end Cert.Num

end
-- ==== Proof.At.lean ====
module

public import Idealize.ShloMosaic.Lib.ValueLayout
public import Idealize.ShloMosaic.Lib.MatmulPlain
public import Idealize.ShloMosaic.Lib.Pointwise.Reshape
public import proofs.«01_k».proof.Proof.Num

@[expose] public section

noncomputable section

namespace Cert.At

open Idealize.ShloMosaic hiding ix1 ix2 ix3 ix4
open Idealize.ShloMosaic.ValueIdx

/-- One column broadcast over many: at `(p, c)` the operand's row `p`. -/
theorem col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The index that a reduction along the rows puts back. -/
theorem lift_row {a b : ℕ} (h : (⟨2, ![a, b]⟩ : Shape).Reduces [(1 : Fin 2)] ⟨1, ![a]⟩) (r : Fin a) (k : Fin b) :
    h.lift (ix1 r) k = ix2 r k := by
  funext c; apply Fin.ext
  refine (h.lift_val (ix1 r) k c).trans ?_
  match c with
  | ⟨0, _⟩ => simp [Shape.Reduces.liftVal]
  | ⟨1, _⟩ => simp [Shape.Reduces.liftVal]

/-- The greatest element of a row. -/
theorem rowMax_apply {a b : ℕ} (src : FVec Ideal ⟨2, ![a, b]⟩ .f32) (acc : BitVec 32) (h : (⟨2, ![a, b]⟩ : Shape).Reduces [(1 : Fin 2)] ⟨1, ![a]⟩)
    (hφ : FKind.Formats .f32) (hacc : acc = FKind.maximumf.neutral .f32 hφ) (r : Fin a) :
    multiReduction .maximumf [(1 : Fin 2)] ⟨1, ![a]⟩ src acc h hφ hacc (ix1 r)
      = Finset.univ.fold max (Ideal.ofBits .f32 acc) fun k : Fin b => src (ix2 r k) := by
  rw [Ideal.multiReduction_maximumf_single]
  exact congrArg (Finset.fold max _ · _) (funext fun k => congrArg src (lift_row h r k))

/-- The sum of a row of words. -/
theorem rowSum_apply {a b : ℕ} (src : IVec ⟨2, ![a, b]⟩ 32) (acc : BitVec 32) (h : (⟨2, ![a, b]⟩ : Shape).Reduces [(1 : Fin 2)] ⟨1, ![a]⟩)
    (hacc : acc = IKind.add.neutral) (r : Fin a) :
    multiReductionI .add [(1 : Fin 2)] ⟨1, ![a]⟩ src acc h hacc (ix1 r)
      = Finset.univ.fold IntOp.addi acc fun k : Fin b => src (ix2 r k) := by
  rw [multiReductionI_eq_fold]
  refine (h.fold_filter_drop_single IntOp.addi acc src (ix1 r)).trans ?_
  exact congrArg (Finset.fold IntOp.addi _ · _) (funext fun k => congrArg src (lift_row h r k))

/-- A shift by 23 places. -/
theorem shl23 (x : BitVec 32) : IntOp.shli .vector x 23#32 = x <<< (23 : ℕ) := by
  unfold IntOp.shli
  rw [if_pos (by decide)]
  rfl

/-- The dimension numbers of `[K, M]ᵀ × [K, N]`. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

/-- **`[K,M]ᵀ × [K,N]` read at (r, c)**: the accumulator plus Σ_k lhs[k,r] · rhs[k,c]. -/
theorem tn_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (tn M K N) prec lhs rhs acc (ix2 r c) = acc (ix2 r c) + ∑ k : Fin K, lhs (ix2 k r) * rhs (ix2 k c) := by
  have hr : (tn M K N).contr.rank = 1 := rfl
  have hs : (tn M K N).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (tn M K N).lhsIdx (ix2 r c) ((contrEquiv1 _ K hr hs).symm k) = ix2 k r := by
    funext a; apply Fin.ext
    match a with
    | ⟨0, _⟩ => exact hk
    | ⟨1, _⟩ => rfl
  have er : (tn M K N).rhsIdx (ix2 r c) ((contrEquiv1 _ K hr hs).symm k) = ix2 k c := by
    funext a; apply Fin.ext
    match a with
    | ⟨0, _⟩ => exact hk
    | ⟨1, _⟩ => rfl
  rw [el, er]

end Cert.At

end
-- ==== Proof.Spec.lean ====
module

public import proofs.«01_k».proof.Proof.Num

@[expose] public section

noncomputable section

/-! The four results as functions of plain indices, over the extended reals: `T` = 1536 tokens, 3584 model columns, 18944
    feature columns. -/

namespace Cert.Spec

open Idealize.ShloMosaic

/-- Feature column `f`'s bit of a row of mask bytes. -/
def bit (mask : Fin 2368 → BitVec 8) (f : Fin 18944) : Bool :=
  (mask ⟨f.val / 8, by omega⟩).getLsbD (f.val % 8)

/-- The masked gradient of one feature column, from the row's byte, scale and product. -/
def masked (b : Bool) (p s : EReal) : EReal := if b then p * s else 0

/-- The product of a gradient row and a scaled weight row. -/
def prod (dy : Fin 3584 → EReal) (w2 w2s : Fin 3584 → EReal) : EReal := ∑ d, dy d * (w2 d * w2s d)

/-- The greatest magnitude of a row. -/
def amax (dh : Fin 18944 → EReal) : EReal :=
  Finset.univ.fold max (Ideal.ofBits .f32 0xFF800000#32) fun f => max (dh f) (-dh f)

/-- The exponent of a row's scale, from the row's greatest magnitude. -/
def expo (a : EReal) : EReal := Num.expo (a * Num.C)

/-- One element brought into the range of the stored format. -/
def code (x e : EReal) : EReal :=
  min (Ideal.ofBits .f32 0x47600000#32) (max (Ideal.ofBits .f32 0xC7600000#32) (x * Ideal.exp2 (0 - e)))

/-- One element of the gradient of the layer's input. -/
def dx (codes w1 : Fin 18944 → EReal) (e w1s : EReal) : EReal := (∑ f, codes f * w1 f) * Ideal.exp2 e * w1s

/-- One element of the gradient of the second weight. -/
def dw2 (h hs dy dys : Fin 1536 → EReal) : EReal := ∑ t, (h t * hs t) * (dy t * dys t)

end Cert.Spec

end
-- ==== Proof.Pay.lean ====
module

public import proofs.«01_k».proof.Proof.At
public import proofs.«01_k».proof.Proof.Spec
public import proofs.«01_k».proof.Proof.Gen.KernelIdeal.Skeleton

@[expose] public section

noncomputable section

/-! What the kernel's three bodies compute, read at an index over the extended reals. -/

namespace Cert.KernelIdeal.Whole

open Idealize.ShloMosaic hiding ix1 ix2 ix3 ix4
open Idealize.ShloMosaic.ValueIdx
open Cert.KernelIdeal Cert.KernelIdeal.Gen Cert.At

theorem k0_pay4_apply (v : Vec Ideal S1536x3584 .fp8e5m2) (i : S1536x3584.Idx) : k0_pay4 (F := Ideal) v i = v i := by
  unfold k0_pay4
  rw [shapeCast_id, shapeCast_id]
  rfl

theorem k0_pay5_apply (i : S1536x128.Idx) : k0_pay5 (F := Ideal) i = 0 := by
  unfold k0_pay5
  rw [shapeCast_id]
  exact Ideal.ofBits_zero_f32

theorem k0_pay6_apply (w2 : Vec Ideal S512x3584 .fp8e4m3) (w2s : Vec Ideal S1x3584 .f32) (dy : Vec Ideal S1536x3584 .bf16) (r : Fin 1536) (c : Fin 512) :
    k0_pay6 (F := Ideal) w2 w2s dy (ix2 r c)
      = Spec.prod (fun d => dy (ix2 r d)) (fun d => w2 (ix2 c d)) (fun d => w2s (ix2 (0 : Fin 1) d)) := by
  unfold k0_pay6
  rw [shapeCast_id]
  refine (Ideal.matmul_transposedRhs_apply (M := 1536) (K := 3584) (N := 512) none _ _ _ r c).trans ?_
  rw [constant_apply, Ideal.ofBits_zero_f32, zero_add]
  refine Finset.sum_congr rfl fun d _ => ?_
  rw [mulf_apply, extf_apply]
  exact congrArg (fun z => dy (ix2 r d) * (w2 (ix2 c d) * z)) (broadcastTo_1b_ab_apply _ _ c d)

theorem k0_pay3_apply (v : Vec Ideal S1536x128 .f32) (r : Fin 1536) (u : Fin 1) :
    k0_pay3 (F := Ideal) v (ix2 r u) = Finset.univ.fold max (Ideal.ofBits .f32 0xFF800000#32) fun l : Fin 128 => v (ix2 r l) := by
  unfold k0_pay3
  exact (shapeCast_a_a1_apply _ _ r u).trans (rowMax_apply v _ _ _ _ r)

theorem k1_pay2_apply (h : Vec Ideal S1536x512 .fp8e4m3) (hs : Vec Ideal S1x1536 .f32) (g : Vec Ideal S1536x3584 .bf16) (f : Fin 512) (d : Fin 3584) :
    k1_pay2 (F := Ideal) h hs g (ix2 f d) = ∑ t : Fin 1536, (h (ix2 t f) * hs (ix2 (0 : Fin 1) t)) * g (ix2 t d) := by
  unfold k1_pay2
  rw [shapeCast_id, shapeCast_id]
  refine (Ideal.matmul_plain_apply (M := 512) (K := 1536) (N := 3584) none _ _ _ f d).trans ?_
  rw [constant_apply, Ideal.ofBits_zero_f32, zero_add]
  refine Finset.sum_congr rfl fun t _ => ?_
  rw [mulf_apply]
  exact congrArg (· * g (ix2 t d)) (congrArg₂ (· * ·) (transpose_ix2_apply _ _ f t) (broadcastTo_1b_ab_apply _ _ f t))

theorem k1_pay4_apply (dy : Vec Ideal S1536x3584 .fp8e5m2) (dys : Vec Ideal S1536x1 .f32) (r : Fin 1536) (d : Fin 3584) :
    k1_pay4 (F := Ideal) dy dys (ix2 r d) = dy (ix2 r d) * dys (ix2 r (0 : Fin 1)) := by
  unfold k1_pay4
  rw [shapeCast_id, shapeCast_id, shapeCast_id, mulf_apply, extf_apply]
  exact congrArg (dy (ix2 r d) * ·) (col_apply _ _ r d)

theorem k1_pay3_apply (dh : Vec Ideal S1536x512 .f32) (inv : Vec Ideal S1536x1 .f32) (r : Fin 1536) (c : Fin 512) :
    k1_pay3 (F := Ideal) dh inv (ix2 r c)
      = min (Ideal.ofBits .f32 0x47600000#32) (max (Ideal.ofBits .f32 0xC7600000#32) (dh (ix2 r c) * inv (ix2 r (0 : Fin 1)))) := by
  unfold k1_pay3
  rw [shapeCast_id, truncf_apply, minimumf_apply, maximumf_apply, mulf_apply]
  exact congrArg (fun z => min _ (max _ (dh (ix2 r c) * z))) (col_apply _ _ r c)

/-- The count of the powers of two at or below a row's value, as the kernel writes it over `T` rows. -/
theorem count_apply {T : ℕ} (q : FVec Ideal ⟨2, ![T, 1]⟩ .f32) (hi : (⟨2, ![T, 256]⟩ : Shape).Iotas .tc 32 [1])
    (hb : (⟨2, ![T, 1]⟩ : Shape).Broadcasts ⟨2, ![T, 256]⟩) (hw : 1 < 32) (h : (⟨2, ![T, 256]⟩ : Shape).Reduces [(1 : Fin 2)] ⟨1, ![T]⟩)
    (hc : (⟨1, ![T]⟩ : Shape).ShapeCasts ⟨2, ![T, 1]⟩) (r : Fin T) (u : Fin 1) :
    shapeCast ⟨2, ![T, 1]⟩ (multiReductionI .add [(1 : Fin 2)] ⟨1, ![T]⟩
      (extui 32 (andi (andi (cmpi .sgt (iota .tc ⟨2, ![T, 256]⟩ 32 [1] hi) (broadcast ⟨2, ![T, 256]⟩ 0#32))
          (cmpi .slt (iota .tc ⟨2, ![T, 256]⟩ 32 [1] hi) (broadcast ⟨2, ![T, 256]⟩ 254#32)))
        (cmpf .oge (broadcastTo ⟨2, ![T, 256]⟩ q hb)
          (bitcastToFloat .f32 (shli (iota .tc ⟨2, ![T, 256]⟩ 32 [1] hi) (broadcast ⟨2, ![T, 256]⟩ 23#32))))) hw)
      0#32 h rfl) hc (ix2 r u) = Num.field (q (ix2 r (0 : Fin 1))) := by
  refine (shapeCast_a_a1_apply _ _ r u).trans ((rowSum_apply _ _ _ _ r).trans ?_)
  unfold Num.field
  refine congrArg (Finset.fold IntOp.addi _ · _) (funext fun k => ?_)
  have hk : iota .tc ⟨2, ![T, 256]⟩ 32 [1] hi (ix2 r k) = BitVec.ofNat 32 k.val :=
    congrArg (BitVec.ofNat 32) (by show 0 * 256 + k.val = k.val; omega)
  have hb' : broadcastTo ⟨2, ![T, 256]⟩ q hb (ix2 r k) = q (ix2 r (0 : Fin 1)) := col_apply q hb r k
  show (((IntOp.cmpi .sgt (iota .tc ⟨2, ![T, 256]⟩ 32 [1] hi (ix2 r k)) 0#32) &&& (IntOp.cmpi .slt (iota .tc ⟨2, ![T, 256]⟩ 32 [1] hi (ix2 r k)) 254#32))
    &&& Ideal.cmp .oge (broadcastTo ⟨2, ![T, 256]⟩ q hb (ix2 r k))
      (Ideal.ofBits .f32 (IntOp.shli .vector (iota .tc ⟨2, ![T, 256]⟩ 32 [1] hi (ix2 r k)) 23#32))).setWidth 32 = _
  rw [hk, hb', shl23]
  rfl

/-- The exponent word that the second call takes from a row's greatest magnitude, negated. -/
theorem k1_pay5_apply (a : Vec Ideal S1536x1 .f32) (r : Fin 1536) :
    k1_pay5 (F := Ideal) a (ix2 r (0 : Fin 1)) = 0#32 - Num.eword (a (ix2 r (0 : Fin 1)) * Num.C) := by
  unfold k1_pay5
  rw [shapeCast_id]
  have e := count_apply (T := 1536) (mulf a (broadcast S1536x1 (Ideal.ofBits .f32 0x37924925#32))) iota_S1536x256_d1_w32
    broadcasts_S1536x1_S1536x256 natLt_1_32 reduces_S1536x256_S1536 shapeCasts_S1536_S1536x1 r 0
  refine congrArg (0#32 - ·) ?_
  exact congrArg (fun w => Scalar.select (IntOp.cmpi .eq w 0#32 ||| IntOp.cmpi .eq w 253#32) 0#32 (w - 126#32)) e

theorem k1_pay1_apply (w : Vec Ideal S1536x1 .i32) (i : S1536x1.Idx) : k1_pay1 (F := Ideal) w i = Num.pow2 (w i) := by
  unfold k1_pay1
  rw [shapeCast_id]
  exact congrArg (Ideal.ofBits .f32) (shl23 _)

/-- The reciprocal scale of a row. -/
theorem inv_apply (a : Vec Ideal S1536x1 .f32) (r : Fin 1536) :
    k1_pay1 (F := Ideal) (k1_pay5 (F := Ideal) a) (ix2 r (0 : Fin 1)) = Ideal.exp2 (0 - Spec.expo (a (ix2 r (0 : Fin 1)))) := by
  rw [k1_pay1_apply, k1_pay5_apply, (Num.scale_eq _).2]
  rfl

/-- The scale of a row. -/
theorem k2_pay2_apply (a : Vec Ideal S768x1 .f32) (r : Fin 768) :
    k2_pay2 (F := Ideal) a (ix2 r (0 : Fin 1)) = Ideal.exp2 (Spec.expo (a (ix2 r (0 : Fin 1)))) := by
  unfold k2_pay2
  rw [shapeCast_id]
  have e := count_apply (T := 768) (mulf a (broadcast S768x1 (Ideal.ofBits .f32 0x37924925#32))) iota_S768x256_d1_w32
    broadcasts_S768x1_S768x256 natLt_1_32 reduces_S768x256_S768 shapeCasts_S768_S768x1 r 0
  refine (congrArg (Ideal.ofBits .f32) (shl23 _)).trans ?_
  refine Eq.trans ?_ (Num.scale_eq _).1
  exact congrArg (fun w => Num.pow2 (Scalar.select (IntOp.cmpi .eq w 0#32 ||| IntOp.cmpi .eq w 253#32) 0#32 (w - 126#32))) e

theorem k2_pay1_apply (v : FVec Ideal S768x256 .f32) (s : Vec Ideal S1x256 .f32) (r : Fin 768) (c : Fin 256) :
    k2_pay1 (F := Ideal) v s (ix2 r c) = v (ix2 r c) * s (ix2 (0 : Fin 1) c) := by
  unfold k2_pay1
  rw [shapeCast_id, truncf_apply, mulf_apply]
  exact congrArg (v (ix2 r c) * ·) (broadcastTo_1b_ab_apply _ _ r c)

theorem k2_pay3_apply (a : Vec Ideal S768x1 .f32) (x : Vec Ideal S768x18944 .fp8e5m2) (w : Vec Ideal S256x18944 .fp8e4m3) (r : Fin 768) (c : Fin 256) :
    k2_pay3 (F := Ideal) a x w (ix2 r c)
      = (∑ f : Fin 18944, x (ix2 r f) * w (ix2 c f)) * Ideal.exp2 (Spec.expo (a (ix2 r (0 : Fin 1)))) := by
  unfold k2_pay3
  rw [shapeCast_id, mulf_apply]
  refine congrArg₂ (· * ·) ?_ ((col_apply _ _ r c).trans (k2_pay2_apply a r))
  refine (Ideal.matmul_transposedRhs_apply (M := 768) (K := 18944) (N := 256) none _ _ _ r c).trans ?_
  rw [constant_apply, Ideal.ofBits_zero_f32, zero_add]

end Cert.KernelIdeal.Whole

end
-- ==== Proof.DhVal.lean ====
module

public import proofs.«01_k».proof.Proof.Dh
public import proofs.«01_k».proof.Proof.Pay

@[expose] public section

set_option maxRecDepth 16384

noncomputable section

/-! The first call's two result arrays, as functions of the arrays it is entered with. -/

namespace Cert.KernelIdeal.Whole

open Idealize.ShloMosaic hiding ix1 ix2 ix3 ix4 eq_ix2
open Idealize.ShloMosaic.TcCoe
open Idealize.ShloMosaic.ValueIdx
open Idealize.ShloMosaic.Pipeline (Dat Cfg Window)
open Cert.KernelIdeal Cert.KernelIdeal.Gen Cert.At

/-- One group of 128 columns at an index. -/
theorem tile_at (x : FVec Ideal S1536x128 .f32) (m : IVec S1536x128 8) (n h : BitVec 32) (hn : n = 0#32 ∨ n = 16#32 ∨ n = 32#32 ∨ n = 48#32)
    (hh : h = 0#32 ∨ h = 64#32) (s : Vec Ideal S1536x1 .f32) (r : Fin 1536) (l : Fin 128) :
    tile (F := Ideal) x m n h s (ix2 r l)
      = Spec.masked ((m (ix2 r ⟨h.toNat + n.toNat + l.val / 8, group_lt hn hh l⟩)).getLsbD (l.val % 8)) (x (ix2 r l)) (s (ix2 r (0 : Fin 1))) := by
  have hk : keep m n h (ix2 r l) = BitVec.ofBool ((m (ix2 r ⟨h.toNat + n.toNat + l.val / 8, group_lt hn hh l⟩)).getLsbD (l.val % 8)) :=
    keep_apply m n h hn hh r l
  have hs : broadcastTo S1536x128 s broadcasts_S1536x1_S1536x128 (ix2 r l) = s (ix2 r (0 : Fin 1)) := col_apply s _ r l
  unfold tile
  rw [select_apply, hk, mulf_apply, hs]
  unfold Spec.masked
  cases (m (ix2 r ⟨h.toNat + n.toNat + l.val / 8, group_lt hn hh l⟩)).getLsbD (l.val % 8)
  · exact Ideal.ofBits_zero_f32
  · rfl

variable (V : (c : Dev nD) → (b : Ref sig .tc) → Buf (Elt Ideal) ((c : Thread nD τ).loc b)) (c : Dev nD)

/-- The arrays of the first call: the gradient, -/
abbrev a0_dy : S1536x3584.Idx → EReal := V c main_v0
/-- its scales, -/
abbrev a0_dys : S1536x1.Idx → EReal := V c main_v1
/-- the mask's bytes, -/
abbrev a0_mask : S1536x2368.Idx → BitVec 8 := V c main_v4
/-- the second weight -/
abbrev a0_w2 : S18944x3584.Idx → EReal := V c main_arg7
/-- and its scales. -/
abbrev a0_w2s : S1x3584.Idx → EReal := V c main_v5

theorem col0_lt (t : Fin cfg0.N) (j : Fin 512) : 512 * t.val + j.val < 18944 := by
  have := Nat.lt_of_lt_of_eq t.isLt N_0
  omega

theorem iblk0_0_at (t : Fin cfg0.N) (r : Fin 1536) (d : Fin 3584) :
    (iblk0 V c 0 t : S1536x3584.Idx → EReal) (ix2 r d) = a0_dy V c (ix2 r d) := by
  have hi : win0_0.index t 0 = 0 ∧ win0_0.index t 1 = 0 := by revert t; decide +kernel
  refine congrArg (a0_dy V c) (funext fun a => Fin.ext ?_)
  match a with
  | ⟨0, _⟩ => show win0_0.index t 0 * 1536 + 1 * r.val = r.val; rw [hi.1]; omega
  | ⟨1, _⟩ => show win0_0.index t 1 * 3584 + 1 * d.val = d.val; rw [hi.2]; omega

theorem iblk0_1_at (t : Fin cfg0.N) (r : Fin 1536) :
    (iblk0 V c 1 t : S1536x1.Idx → EReal) (ix2 r (0 : Fin 1)) = a0_dys V c (ix2 r (0 : Fin 1)) := by
  have hi : win0_1.index t 0 = 0 ∧ win0_1.index t 1 = 0 := by revert t; decide +kernel
  refine congrArg (a0_dys V c) (funext fun a => Fin.ext ?_)
  match a with
  | ⟨0, _⟩ => show win0_1.index t 0 * 1536 + 1 * r.val = r.val; rw [hi.1]; omega
  | ⟨1, _⟩ => show win0_1.index t 1 * 1 + 1 * 0 = 0; rw [hi.2]

theorem iblk0_3_at (t : Fin cfg0.N) (j : Fin 512) (d : Fin 3584) :
    (iblk0 V c 3 t : S512x3584.Idx → EReal) (ix2 j d) = a0_w2 V c (ix2 ⟨512 * t.val + j.val, col0_lt t j⟩ d) := by
  have hi : win0_3.index t 0 = t.val ∧ win0_3.index t 1 = 0 := by revert t; decide +kernel
  refine congrArg (a0_w2 V c) (funext fun a => Fin.ext ?_)
  match a with
  | ⟨0, _⟩ => show win0_3.index t 0 * 512 + 1 * j.val = 512 * t.val + j.val; rw [hi.1]; omega
  | ⟨1, _⟩ => show win0_3.index t 1 * 3584 + 1 * d.val = d.val; rw [hi.2]; omega

theorem iblk0_4_at (t : Fin cfg0.N) (d : Fin 3584) :
    (iblk0 V c 4 t : S1x3584.Idx → EReal) (ix2 (0 : Fin 1) d) = a0_w2s V c (ix2 (0 : Fin 1) d) := by
  have hi : win0_4.index t 0 = 0 ∧ win0_4.index t 1 = 0 := by revert t; decide +kernel
  refine congrArg (a0_w2s V c) (funext fun a => Fin.ext ?_)
  match a with
  | ⟨0, _⟩ => show win0_4.index t 0 * 1 + 1 * 0 = 0; rw [hi.1]
  | ⟨1, _⟩ => show win0_4.index t 1 * 3584 + 1 * d.val = d.val; rw [hi.2]; omega

/-- A point's offset in its mask block, as a number. -/
theorem half_val (t : Fin cfg0.N) : (halfWord (grid0.coords t)).toNat = t.val % 2 * 64 := by
  rw [halfWord_eq t, BitVec.toNat_ofNat]
  omega

theorem lane_lt (t : Fin cfg0.N) (k : ℕ) (hk : k < 4) (l : Fin 128) : 128 * (t.val / 2) + (t.val % 2 * 64 + 16 * k + l.val / 8) < 2368 := by
  have := Nat.lt_of_lt_of_eq t.isLt N_0
  omega

/-- The mask block of a point at a lane that the point reads. -/
theorem mblk_at (t : Fin cfg0.N) (k : ℕ) (hk : k < 4) (r : Fin 1536) (l : Fin 128) (p : Fin 128) (hp : p.val = t.val % 2 * 64 + 16 * k + l.val / 8) :
    (mblk V c t : S1536x128.Idx → BitVec 8) (ix2 r p) = a0_mask V c (ix2 r ⟨128 * (t.val / 2) + (t.val % 2 * 64 + 16 * k + l.val / 8), lane_lt t k hk l⟩) := by
  have hm : win0_2.moved (grid0.coords t) (ix2 r p) = true := (win0_2.moved_iff _ _).mpr (by
    have hi := half_inside t
    rw [half_val t] at hi
    intro a
    match a with
    | ⟨0, _⟩ => exact lt_of_lt_of_eq r.isLt hi.1.symm
    | ⟨1, _⟩ => exact lt_of_lt_of_le (show p.val < t.val % 2 * 64 + 64 by omega) hi.2)
  have hi : win0_2.index t 0 = 0 ∧ win0_2.index t 1 = t.val / 2 := by clear hm hp; revert t; decide +kernel
  unfold mblk Window.fill
  rw [dif_pos hm]
  refine congrArg (a0_mask V c) (funext fun a => Fin.ext ?_)
  match a with
  | ⟨0, _⟩ => show win0_2.index t 0 * 1536 + 1 * r.val = r.val; rw [hi.1]; omega
  | ⟨1, _⟩ =>
    show win0_2.index t 1 * 128 + 1 * p.val = 128 * (t.val / 2) + (t.val % 2 * 64 + 16 * k + l.val / 8)
    rw [hi.2]; omega

/-- The masked gradient, element by element. -/
def dhArr : S1536x18944.Idx → EReal := fun i =>
  Spec.masked (Spec.bit (fun b => a0_mask V c (ix2 (i 0) b)) (i 1))
    (Spec.prod (fun d => a0_dy V c (ix2 (i 0) d)) (fun d => a0_w2 V c (ix2 (i 1) d)) (fun d => a0_w2s V c (ix2 (0 : Fin 1) d)))
    (a0_dys V c (ix2 (i 0) (0 : Fin 1)))

/-- The greatest magnitude of each row. -/
def amaxArr : S1536x1.Idx → EReal := fun i => Spec.amax fun f => dhArr V c (ix2 (i 0) f)

theorem prod_at (t : Fin cfg0.N) (r : Fin 1536) (j : Fin 512) :
    prod V c t (ix2 r j) = Spec.prod (fun d => a0_dy V c (ix2 r d)) (fun d => a0_w2 V c (ix2 ⟨512 * t.val + j.val, col0_lt t j⟩ d))
      (fun d => a0_w2s V c (ix2 (0 : Fin 1) d)) := by
  unfold prod
  rw [k0_pay6_apply]
  unfold dyb
  have e1 : (fun d => k0_pay4 (F := Ideal) (iblk0 V c 0 p0) (ix2 r d)) = fun d => a0_dy V c (ix2 r d) :=
    funext fun d => (k0_pay4_apply _ _).trans (iblk0_0_at V c p0 r d)
  have e2 : (fun d => (iblk0 V c 3 t : S512x3584.Idx → EReal) (ix2 j d)) = fun d => a0_w2 V c (ix2 ⟨512 * t.val + j.val, col0_lt t j⟩ d) :=
    funext fun d => iblk0_3_at V c t j d
  have e3 : (fun d => (iblk0 V c 4 t : S1x3584.Idx → EReal) (ix2 (0 : Fin 1) d)) = fun d => a0_w2s V c (ix2 (0 : Fin 1) d) :=
    funext fun d => iblk0_4_at V c t d
  exact (congrArg (fun z => Spec.prod z _ _) e1).trans ((congrArg (fun z => Spec.prod _ z _) e2).trans (congrArg (fun z => Spec.prod _ _ z) e3))

theorem colk_lt (t : Fin cfg0.N) (k : ℕ) (hk : k < 4) (l : Fin 128) : 512 * t.val + (128 * k + l.val) < 18944 := by
  have := Nat.lt_of_lt_of_eq t.isLt N_0
  omega

/-- Group `k` of a point's block at an index. -/
theorem group_at (t : Fin cfg0.N) (k : ℕ) (hk : k < 4) (n : BitVec 32) (hn : n = 0#32 ∨ n = 16#32 ∨ n = 32#32 ∨ n = 48#32) (hnk : n.toNat = 16 * k)
    (x : FVec Ideal S1536x128 .f32) (r : Fin 1536) (l : Fin 128) (hx : x (ix2 r l) = prod V c t (ix2 r ⟨128 * k + l.val, by omega⟩)) :
    tile x (mblk V c t) n (halfWord (grid0.coords t)) (iblk0 V c 1 t) (ix2 r l)
      = dhArr V c (ix2 r ⟨512 * t.val + (128 * k + l.val), colk_lt t k hk l⟩) := by
  refine (tile_at x (mblk V c t) n _ hn (halfWord_or t) (iblk0 V c 1 t) r l).trans ?_
  have hb := mblk_at V c t k hk r l ⟨(halfWord (grid0.coords t)).toNat + n.toNat + l.val / 8, group_lt hn (halfWord_or t) l⟩
    (by show (halfWord (grid0.coords t)).toNat + n.toNat + l.val / 8 = _; rw [half_val, hnk])
  rw [hb, hx, prod_at, iblk0_1_at]
  unfold dhArr Spec.bit
  refine congrArg (fun z => Spec.masked z _ _) ?_
  refine congrArg₂ BitVec.getLsbD (congrArg (a0_mask V c) (congrArg (ix2 r) (Fin.ext ?_))) ?_
  · show 128 * (t.val / 2) + (t.val % 2 * 64 + 16 * k + l.val / 8) = (512 * t.val + (128 * k + l.val)) / 8
    omega
  · show l.val % 8 = (512 * t.val + (128 * k + l.val)) % 8
    omega

section
variable (t : Fin cfg0.N) (r : Fin 1536) (l : Fin 128)

theorem tile0_at : tile0 (prod V c t) (mblk V c t) (halfWord (grid0.coords t)) (iblk0 V c 1 t) (ix2 r l)
    = dhArr V c (ix2 r ⟨512 * t.val + (128 * 0 + l.val), colk_lt t 0 (by decide) l⟩) :=
  group_at V c t 0 (by decide) 0#32 (by decide) (by decide) _ r l (slice2_axis1_apply 0 _ _ r l _ (by show 128 * 0 + l.val = 0 + l.val; omega))
theorem tile1_at : tile1 (prod V c t) (mblk V c t) (halfWord (grid0.coords t)) (iblk0 V c 1 t) (ix2 r l)
    = dhArr V c (ix2 r ⟨512 * t.val + (128 * 1 + l.val), colk_lt t 1 (by decide) l⟩) :=
  group_at V c t 1 (by decide) 16#32 (by decide) (by decide) _ r l (slice2_axis1_apply 128 _ _ r l _ (by show 128 * 1 + l.val = 128 + l.val; omega))
theorem tile2_at : tile2 (prod V c t) (mblk V c t) (halfWord (grid0.coords t)) (iblk0 V c 1 t) (ix2 r l)
    = dhArr V c (ix2 r ⟨512 * t.val + (128 * 2 + l.val), colk_lt t 2 (by decide) l⟩) :=
  group_at V c t 2 (by decide) 32#32 (by decide) (by decide) _ r l (slice2_axis1_apply 256 _ _ r l _ (by show 128 * 2 + l.val = 256 + l.val; omega))
theorem tile3_at : tile3 (prod V c t) (mblk V c t) (halfWord (grid0.coords t)) (iblk0 V c 1 t) (ix2 r l)
    = dhArr V c (ix2 r ⟨512 * t.val + (128 * 3 + l.val), colk_lt t 3 (by decide) l⟩) :=
  group_at V c t 3 (by decide) 48#32 (by decide) (by decide) _ r l (slice2_axis1_apply 384 _ _ r l _ (by show 128 * 3 + l.val = 384 + l.val; omega))
end

/-- The block that a point stores. -/
def dhBlk (t : Fin cfg0.N) : Vec Ideal S1536x512 .f32 := fun y => dhArr V c (ix2 (y 0) ⟨512 * t.val + (y 1).val, col0_lt t (y 1)⟩)

/-- What a point stores, at an index. -/
theorem dhAt_at (t : Fin cfg0.N) (y : S1536x512.Idx) :
    dhAt V c t y = dhArr V c (ix2 (y 0) ⟨512 * t.val + (y 1).val, col0_lt t (y 1)⟩) := by
  unfold dhAt dhOut
  refine View.canon_apply_of_pieces (dhBlk V c t) _ ?_ y
    (cover0_5 _ _ _ _ y)
  intro p hp
  simp only [List.mem_cons, List.not_mem_nil, or_false] at hp
  rcases hp with rfl | rfl | rfl | rfl
  · intro x
    obtain ⟨a, b, rfl⟩ : ∃ (a : Fin 1536) (b : Fin 128), x = ix2 a b := ⟨x 0, x 1, eq_ix2 x⟩
    refine (tile3_at V c t a b).trans (congrArg (dhArr V c) (funext fun d => Fin.ext ?_))
    match d with
    | ⟨0, _⟩ => show a.val = 0 + 1 * a.val; omega
    | ⟨1, _⟩ => show 512 * t.val + (128 * 3 + b.val) = 512 * t.val + (384 + 1 * b.val); omega
  · intro x
    obtain ⟨a, b, rfl⟩ : ∃ (a : Fin 1536) (b : Fin 128), x = ix2 a b := ⟨x 0, x 1, eq_ix2 x⟩
    refine (tile2_at V c t a b).trans (congrArg (dhArr V c) (funext fun d => Fin.ext ?_))
    match d with
    | ⟨0, _⟩ => show a.val = 0 + 1 * a.val; omega
    | ⟨1, _⟩ => show 512 * t.val + (128 * 2 + b.val) = 512 * t.val + (256 + 1 * b.val); omega
  · intro x
    obtain ⟨a, b, rfl⟩ : ∃ (a : Fin 1536) (b : Fin 128), x = ix2 a b := ⟨x 0, x 1, eq_ix2 x⟩
    refine (tile1_at V c t a b).trans (congrArg (dhArr V c) (funext fun d => Fin.ext ?_))
    match d with
    | ⟨0, _⟩ => show a.val = 0 + 1 * a.val; omega
    | ⟨1, _⟩ => show 512 * t.val + (128 * 1 + b.val) = 512 * t.val + (128 + 1 * b.val); omega
  · intro x
    obtain ⟨a, b, rfl⟩ : ∃ (a : Fin 1536) (b : Fin 128), x = ix2 a b := ⟨x 0, x 1, eq_ix2 x⟩
    refine (tile0_at V c t a b).trans (congrArg (dhArr V c) (funext fun d => Fin.ext ?_))
    match d with
    | ⟨0, _⟩ => show a.val = 0 + 1 * a.val; omega
    | ⟨1, _⟩ => show 512 * t.val + (128 * 0 + b.val) = 512 * t.val + (0 + 1 * b.val); omega

/-- The magnitude of an element of the masked gradient. -/
abbrev mag (r : Fin 1536) (f : Fin 18944) : EReal := max (dhArr V c (ix2 r f)) (-dhArr V c (ix2 r f))

theorem mag_nonneg (r : Fin 1536) (f : Fin 18944) : 0 ≤ mag V c r f := by
  unfold mag
  rcases le_total 0 (dhArr V c (ix2 r f)) with h | h
  · exact le_max_of_le_left h
  · exact le_max_of_le_right (EReal.neg_nonneg.mpr h)

/-- The running maximum after `n` points is at most `x` when zero and every magnitude met so far in that lane are. -/
theorem runAt_le (r : Fin 1536) (l : Fin 128) (x : EReal) : ∀ n : ℕ, n ≤ 37 →
    ((runAt V c n : S1536x128.Idx → EReal) (ix2 r l) ≤ x ↔ 0 ≤ x ∧ ∀ f : Fin 18944, f.val / 512 < n → f.val % 128 = l.val → mag V c r f ≤ x)
  | 0, _ => by
    have e : (runAt V c 0 : S1536x128.Idx → EReal) (ix2 r l) = 0 := k0_pay5_apply _
    rw [e]
    exact ⟨fun h => ⟨h, fun f hf => absurd hf (Nat.not_lt_zero _)⟩, fun h => h.1⟩
  | n + 1, hn => by
    have ih := runAt_le r l x n (by omega)
    have hN : n < cfg0.N := Nat.lt_of_lt_of_eq (by omega : n < 37) N_0.symm
    let t : Fin cfg0.N := ⟨n, hN⟩
    have e : (runAt V c (n + 1) : S1536x128.Idx → EReal) (ix2 r l)
        = max (max (max (max ((runAt V c n : S1536x128.Idx → EReal) (ix2 r l)) (mag V c r ⟨512 * n + (128 * 0 + l.val), colk_lt t 0 (by decide) l⟩))
          (mag V c r ⟨512 * n + (128 * 1 + l.val), colk_lt t 1 (by decide) l⟩)) (mag V c r ⟨512 * n + (128 * 2 + l.val), colk_lt t 2 (by decide) l⟩))
          (mag V c r ⟨512 * n + (128 * 3 + l.val), colk_lt t 3 (by decide) l⟩) := by
      refine (congrFun (runAt_succ V c t) (ix2 r l)).trans ?_
      have a0 := congrArg (fun z : EReal => max z (-z)) (tile0_at V c t r l)
      have a1 := congrArg (fun z : EReal => max z (-z)) (tile1_at V c t r l)
      have a2 := congrArg (fun z : EReal => max z (-z)) (tile2_at V c t r l)
      have a3 := congrArg (fun z : EReal => max z (-z)) (tile3_at V c t r l)
      unfold runOut
      exact congrArg₂ max (congrArg₂ max (congrArg₂ max (congrArg₂ max rfl a0) a1) a2) a3
    rw [e, max_le_iff, max_le_iff, max_le_iff, max_le_iff, ih]
    constructor
    · rintro ⟨⟨⟨⟨⟨h0, hr⟩, m0⟩, m1⟩, m2⟩, m3⟩
      refine ⟨h0, fun f hf hl => ?_⟩
      by_cases hlt : f.val / 512 < n
      · exact hr f hlt hl
      · have hk : (f.val % 512) / 128 = 0 ∨ (f.val % 512) / 128 = 1 ∨ (f.val % 512) / 128 = 2 ∨ (f.val % 512) / 128 = 3 := by omega
        rcases hk with hk | hk | hk | hk
        · rwa [show f = ⟨512 * n + (128 * 0 + l.val), colk_lt t 0 (by decide) l⟩ from Fin.ext (by show f.val = 512 * n + (128 * 0 + l.val); omega)]
        · rwa [show f = ⟨512 * n + (128 * 1 + l.val), colk_lt t 1 (by decide) l⟩ from Fin.ext (by show f.val = 512 * n + (128 * 1 + l.val); omega)]
        · rwa [show f = ⟨512 * n + (128 * 2 + l.val), colk_lt t 2 (by decide) l⟩ from Fin.ext (by show f.val = 512 * n + (128 * 2 + l.val); omega)]
        · rwa [show f = ⟨512 * n + (128 * 3 + l.val), colk_lt t 3 (by decide) l⟩ from Fin.ext (by show f.val = 512 * n + (128 * 3 + l.val); omega)]
    · rintro ⟨h0, hr⟩
      exact ⟨⟨⟨⟨⟨h0, fun f hf hl => hr f (by omega) hl⟩,
        hr ⟨512 * n + (128 * 0 + l.val), colk_lt t 0 (by decide) l⟩ (by show (512 * n + (128 * 0 + l.val)) / 512 < n + 1; omega)
          (by show (512 * n + (128 * 0 + l.val)) % 128 = l.val; omega)⟩,
        hr ⟨512 * n + (128 * 1 + l.val), colk_lt t 1 (by decide) l⟩ (by show (512 * n + (128 * 1 + l.val)) / 512 < n + 1; omega)
          (by show (512 * n + (128 * 1 + l.val)) % 128 = l.val; omega)⟩,
        hr ⟨512 * n + (128 * 2 + l.val), colk_lt t 2 (by decide) l⟩ (by show (512 * n + (128 * 2 + l.val)) / 512 < n + 1; omega)
          (by show (512 * n + (128 * 2 + l.val)) % 128 = l.val; omega)⟩,
        hr ⟨512 * n + (128 * 3 + l.val), colk_lt t 3 (by decide) l⟩ (by show (512 * n + (128 * 3 + l.val)) / 512 < n + 1; omega)
          (by show (512 * n + (128 * 3 + l.val)) % 128 = l.val; omega)⟩

/-- What the last point stores, at an index. -/
theorem amax_at (r : Fin 1536) (u : Fin 1) : k0_pay3 (F := Ideal) (runAt V c 37) (ix2 r u) = amaxArr V c (ix2 r (0 : Fin 1)) := by
  rw [k0_pay3_apply]
  show _ = Finset.univ.fold max (Ideal.ofBits .f32 0xFF800000#32) fun f => mag V c r f
  refine eq_of_forall_ge_iff fun x => ?_
  rw [Finset.fold_max_le, Finset.fold_max_le]
  refine and_congr_right fun _ => ?_
  constructor
  · intro h f _
    exact ((runAt_le V c r ⟨f.val % 128, by omega⟩ x 37 le_rfl).mp (h _ (Finset.mem_univ _))).2 f (by omega) rfl
  · intro h l _
    exact (runAt_le V c r l x 37 le_rfl).mpr ⟨(mag_nonneg V c r 0).trans (h 0 (Finset.mem_univ _)), fun f _ _ => h f (Finset.mem_univ _)⟩

/-- What point `t` writes back into the masked gradient is its block of `dhArr`. -/
theorem flushed0_5 (t : Fin cfg0.N) : (dat0 V c).flushed 5 t = ((cfg0.win 5).blk t).view.read (Elt Ideal) (dhArr V c) := by
  show (cfg0.win 5).cut (grid0.coords t) ((dat0 V c).after 5 t) = _
  rw [after0_5]
  have hi : win0_5.index t 0 = 0 ∧ win0_5.index t 1 = t.val := by revert t; decide +kernel
  funext y
  refine (dhAt_at V c t y).trans (congrArg (dhArr V c) (funext fun a => Fin.ext ?_))
  match a with
  | ⟨0, _⟩ => show (y 0).val = win0_5.index t 0 * 1536 + 1 * (y 0).val; rw [hi.1]; omega
  | ⟨1, _⟩ => show 512 * t.val + (y 1).val = win0_5.index t 1 * 512 + 1 * (y 1).val; rw [hi.2]; omega

attribute [local irreducible] amaxArr

/-- What the last point writes back into the greatest magnitudes is `amaxArr`. -/
theorem flushed0_6 (t : Fin cfg0.N) : (dat0 V c).flushed 6 t = ((cfg0.win 6).blk t).view.read (Elt Ideal) (amaxArr V c) := by
  show (cfg0.win 6).cut (grid0.coords t) ((dat0 V c).after 6 t) = _
  rw [after0_6]
  have hi : win0_6.index t 0 = 0 ∧ win0_6.index t 1 = 0 := by revert t; decide +kernel
  funext y
  obtain ⟨p, q, rfl⟩ : ∃ (p : Fin 1536) (q : Fin 1), y = ix2 p q := ⟨y 0, y 1, eq_ix2 y⟩
  refine (amax_at V c p q).trans (congrArg (amaxArr V c) (funext fun a => Fin.ext ?_))
  match a with
  | ⟨0, _⟩ => show p.val = win0_6.index t 0 * 1536 + 1 * p.val; rw [hi.1]; omega
  | ⟨1, _⟩ => show 0 = win0_6.index t 1 * 1 + 1 * q.val; rw [hi.2]; omega

theorem cover5_0 (i : S1536x18944.Idx) : ∃ t : Fin cfg0.N, (cfg0.win 5).flush t = true ∧ i ∈ ((cfg0.win 5).blk t).view.set := by
  have h0 : (i 0 : Nat) < 1536 := (i 0).isLt
  have h1 : (i 1 : Nat) < 18944 := (i 1).isLt
  have hN : cfg0.N = 37 := N_0
  refine ⟨⟨(i 1).val / 512, by omega⟩, flush0_5 _, ?_⟩
  generalize ht : (⟨(i 1).val / 512, _⟩ : Fin cfg0.N) = t
  have htv : t.val = (i 1).val / 512 := by rw [← ht]
  clear ht
  have e : win0_5.index t 1 = t.val ∧ win0_5.size 1 = 512 ∧ win0_5.xsize (grid0.coords t) 1 = 512
      ∧ win0_5.index t 0 * win0_5.size 0 = 0 ∧ win0_5.xsize (grid0.coords t) 0 = 1536 := by
    clear htv; revert t; decide +kernel
  show i ∈ ((View.whole main_v6_0).slice (win0_5.rect t)).set
  rw [View.set_slice_whole, Rect.mem_set_unit]
  intro a
  match a with
  | ⟨1, _⟩ =>
    show win0_5.index t 1 * win0_5.size 1 ≤ (i 1 : Nat) ∧ (i 1 : Nat) < win0_5.index t 1 * win0_5.size 1 + win0_5.xsize (grid0.coords t) 1
    rw [e.1, e.2.1, e.2.2.1]; omega
  | ⟨0, _⟩ =>
    show win0_5.index t 0 * win0_5.size 0 ≤ (i 0 : Nat) ∧ (i 0 : Nat) < win0_5.index t 0 * win0_5.size 0 + win0_5.xsize (grid0.coords t) 0
    rw [e.2.2.2.1, e.2.2.2.2]; omega

theorem cover6_0 (i : S1536x1.Idx) : ∃ t : Fin cfg0.N, (cfg0.win 6).flush t = true ∧ i ∈ ((cfg0.win 6).blk t).view.set := by
  have h0 : (i 0 : Nat) < 1536 := (i 0).isLt
  have h1 : (i 1 : Nat) < 1 := (i 1).isLt
  have hN : cfg0.N = 37 := N_0
  refine ⟨⟨36, by omega⟩, (flush0_6 _).mpr (by show 36 % 37 = 36; rfl), ?_⟩
  generalize (⟨36, _⟩ : Fin cfg0.N) = t
  have e : win0_6.index t 1 * win0_6.size 1 = 0 ∧ win0_6.xsize (grid0.coords t) 1 = 1
      ∧ win0_6.index t 0 * win0_6.size 0 = 0 ∧ win0_6.xsize (grid0.coords t) 0 = 1536 := by
    revert t; decide +kernel
  show i ∈ ((View.whole main_v6_1).slice (win0_6.rect t)).set
  rw [View.set_slice_whole, Rect.mem_set_unit]
  intro a
  match a with
  | ⟨1, _⟩ =>
    show win0_6.index t 1 * win0_6.size 1 ≤ (i 1 : Nat) ∧ (i 1 : Nat) < win0_6.index t 1 * win0_6.size 1 + win0_6.xsize (grid0.coords t) 1
    rw [e.1, e.2.1]; omega
  | ⟨0, _⟩ =>
    show win0_6.index t 0 * win0_6.size 0 ≤ (i 0 : Nat) ∧ (i 0 : Nat) < win0_6.index t 0 * win0_6.size 0 + win0_6.xsize (grid0.coords t) 0
    rw [e.2.2.1, e.2.2.2]; omega

/-- The masked gradient after the call. -/
theorem final_dh : (dat0 V c).arrAt 5 cfg0.N = dhArr V c :=
  (dat0 V c).arrAt_eq_of_cover 5 (dhArr V c) (fun t _ => flushed0_5 V c t) cover5_0

/-- The greatest magnitudes after the call. -/
theorem final_amax : (dat0 V c).arrAt 6 cfg0.N = amaxArr V c :=
  (dat0 V c).arrAt_eq_of_cover 6 (amaxArr V c) (fun t _ => flushed0_6 V c t) cover6_0

end Cert.KernelIdeal.Whole

end
-- ==== Proof.DwVal.lean ====
module

public import proofs.«01_k».proof.Proof.Dw
public import proofs.«01_k».proof.Proof.Pay

@[expose] public section

noncomputable section

/-! The second call's two result arrays, as functions of the arrays it is entered with. -/

namespace Cert.KernelIdeal.Whole

open Idealize.ShloMosaic hiding ix1 ix2 ix3 ix4 eq_ix2
open Idealize.ShloMosaic.TcCoe
open Idealize.ShloMosaic.ValueIdx
open Idealize.ShloMosaic.Pipeline (Dat Cfg Window)
open Cert.KernelIdeal Cert.KernelIdeal.Gen Cert.At

variable (V : (c : Dev nD) → (b : Ref sig .tc) → Buf (Elt Ideal) ((c : Thread nD τ).loc b)) (c : Dev nD)

/-- The arrays of the second call: the activations, -/
abbrev a1_h : S1536x18944.Idx → EReal := V c main_v2
/-- their scales, -/
abbrev a1_hs : S1x1536.Idx → EReal := V c main_v3
/-- the gradient, -/
abbrev a1_dy : S1536x3584.Idx → EReal := V c main_v0
/-- its scales, -/
abbrev a1_dys : S1536x1.Idx → EReal := V c main_v1
/-- the first call's masked gradient -/
abbrev a1_dh : S1536x18944.Idx → EReal := V c main_v6_0
/-- and its rows' greatest magnitudes. -/
abbrev a1_amax : S1536x1.Idx → EReal := V c main_v6_1

theorem col1_lt (t : Fin cfg1.N) (j : Fin 512) : 512 * t.val + j.val < 18944 := by
  have := Nat.lt_of_lt_of_eq t.isLt N_1
  omega

theorem iblk1_0_at (t : Fin cfg1.N) (r : Fin 1536) (j : Fin 512) :
    (iblk1 V c 0 t : S1536x512.Idx → EReal) (ix2 r j) = a1_h V c (ix2 r ⟨512 * t.val + j.val, col1_lt t j⟩) := by
  have hi : win1_0.index t 0 = 0 ∧ win1_0.index t 1 = t.val := by revert t; decide +kernel
  refine congrArg (a1_h V c) (funext fun a => Fin.ext ?_)
  match a with
  | ⟨0, _⟩ => show win1_0.index t 0 * 1536 + 1 * r.val = r.val; rw [hi.1]; omega
  | ⟨1, _⟩ => show win1_0.index t 1 * 512 + 1 * j.val = 512 * t.val + j.val; rw [hi.2]; omega

theorem iblk1_1_at (t : Fin cfg1.N) (r : Fin 1536) :
    (iblk1 V c 1 t : S1x1536.Idx → EReal) (ix2 (0 : Fin 1) r) = a1_hs V c (ix2 (0 : Fin 1) r) := by
  have hi : win1_1.index t 0 = 0 ∧ win1_1.index t 1 = 0 := by revert t; decide +kernel
  refine congrArg (a1_hs V c) (funext fun a => Fin.ext ?_)
  match a with
  | ⟨0, _⟩ => show win1_1.index t 0 * 1 + 1 * 0 = 0; rw [hi.1]
  | ⟨1, _⟩ => show win1_1.index t 1 * 1536 + 1 * r.val = r.val; rw [hi.2]; omega

theorem iblk1_2_at (t : Fin cfg1.N) (r : Fin 1536) (d : Fin 3584) :
    (iblk1 V c 2 t : S1536x3584.Idx → EReal) (ix2 r d) = a1_dy V c (ix2 r d) := by
  have hi : win1_2.index t 0 = 0 ∧ win1_2.index t 1 = 0 := by revert t; decide +kernel
  refine congrArg (a1_dy V c) (funext fun a => Fin.ext ?_)
  match a with
  | ⟨0, _⟩ => show win1_2.index t 0 * 1536 + 1 * r.val = r.val; rw [hi.1]; omega
  | ⟨1, _⟩ => show win1_2.index t 1 * 3584 + 1 * d.val = d.val; rw [hi.2]; omega

theorem iblk1_3_at (t : Fin cfg1.N) (r : Fin 1536) :
    (iblk1 V c 3 t : S1536x1.Idx → EReal) (ix2 r (0 : Fin 1)) = a1_dys V c (ix2 r (0 : Fin 1)) := by
  have hi : win1_3.index t 0 = 0 ∧ win1_3.index t 1 = 0 := by revert t; decide +kernel
  refine congrArg (a1_dys V c) (funext fun a => Fin.ext ?_)
  match a with
  | ⟨0, _⟩ => show win1_3.index t 0 * 1536 + 1 * r.val = r.val; rw [hi.1]; omega
  | ⟨1, _⟩ => show win1_3.index t 1 * 1 + 1 * 0 = 0; rw [hi.2]

theorem iblk1_4_at (t : Fin cfg1.N) (r : Fin 1536) (j : Fin 512) :
    (iblk1 V c 4 t : S1536x512.Idx → EReal) (ix2 r j) = a1_dh V c (ix2 r ⟨512 * t.val + j.val, col1_lt t j⟩) := by
  have hi : win1_4.index t 0 = 0 ∧ win1_4.index t 1 = t.val := by revert t; decide +kernel
  refine congrArg (a1_dh V c) (funext fun a => Fin.ext ?_)
  match a with
  | ⟨0, _⟩ => show win1_4.index t 0 * 1536 + 1 * r.val = r.val; rw [hi.1]; omega
  | ⟨1, _⟩ => show win1_4.index t 1 * 512 + 1 * j.val = 512 * t.val + j.val; rw [hi.2]; omega

theorem iblk1_5_at (t : Fin cfg1.N) (r : Fin 1536) :
    (iblk1 V c 5 t : S1536x1.Idx → EReal) (ix2 r (0 : Fin 1)) = a1_amax V c (ix2 r (0 : Fin 1)) := by
  have hi : win1_5.index t 0 = 0 ∧ win1_5.index t 1 = 0 := by revert t; decide +kernel
  refine congrArg (a1_amax V c) (funext fun a => Fin.ext ?_)
  match a with
  | ⟨0, _⟩ => show win1_5.index t 0 * 1536 + 1 * r.val = r.val; rw [hi.1]; omega
  | ⟨1, _⟩ => show win1_5.index t 1 * 1 + 1 * 0 = 0; rw [hi.2]

/-- The gradient of the second weight, element by element. -/
def dw2Arr : S18944x3584.Idx → EReal := fun i =>
  Spec.dw2 (fun t => a1_h V c (ix2 t (i 0))) (fun t => a1_hs V c (ix2 (0 : Fin 1) t)) (fun t => a1_dy V c (ix2 t (i 1))) (fun t => a1_dys V c (ix2 t (0 : Fin 1)))

/-- The stored elements of the masked gradient. -/
def codesArr : S1536x18944.Idx → EReal := fun i =>
  Spec.code (a1_dh V c (ix2 (i 0) (i 1))) (Spec.expo (a1_amax V c (ix2 (i 0) (0 : Fin 1))))

/-- What point `t` writes back into the weight gradient is its block of `dw2Arr`. -/
theorem flushed1_6 (t : Fin cfg1.N) : (dat1 V c).flushed 6 t = ((cfg1.win 6).blk t).view.read (Elt Ideal) (dw2Arr V c) := by
  show (cfg1.win 6).cut (grid1.coords t) ((dat1 V c).after 6 t) = _
  rw [after1_6]
  have hi : win1_6.index t 0 = t.val ∧ win1_6.index t 1 = 0 := by revert t; decide +kernel
  funext y
  obtain ⟨p, q, rfl⟩ : ∃ (p : Fin 512) (q : Fin 3584), y = ix2 p q := ⟨y 0, y 1, eq_ix2 y⟩
  have ey : ((cfg1.win 6).blk t).view.emb (ix2 p q) = (ix2 ⟨512 * t.val + p.val, col1_lt t p⟩ q : S18944x3584.Idx) := by
    funext a; apply Fin.ext
    match a with
    | ⟨0, _⟩ => show win1_6.index t 0 * 512 + 1 * p.val = 512 * t.val + p.val; rw [hi.1]; omega
    | ⟨1, _⟩ => show win1_6.index t 1 * 3584 + 1 * q.val = q.val; rw [hi.2]; omega
  show (k1_pay2 (iblk1 V c 0 t) (iblk1 V c 1 t) (gb V c) : S512x3584.Idx → EReal) (ix2 p q) = dw2Arr V c (((cfg1.win 6).blk t).view.emb (ix2 p q))
  rw [ey, k1_pay2_apply]
  unfold dw2Arr Spec.dw2
  refine Finset.sum_congr rfl fun s _ => ?_
  rw [iblk1_0_at, iblk1_1_at]
  unfold gb
  rw [k1_pay4_apply, iblk1_2_at, iblk1_3_at]

/-- What point `t` writes back into the codes is its block of `codesArr`. -/
theorem flushed1_7 (t : Fin cfg1.N) : (dat1 V c).flushed 7 t = ((cfg1.win 7).blk t).view.read (Elt Ideal) (codesArr V c) := by
  show (cfg1.win 7).cut (grid1.coords t) ((dat1 V c).after 7 t) = _
  rw [after1_7]
  have hi : win1_7.index t 0 = 0 ∧ win1_7.index t 1 = t.val := by revert t; decide +kernel
  funext y
  obtain ⟨p, q, rfl⟩ : ∃ (p : Fin 1536) (q : Fin 512), y = ix2 p q := ⟨y 0, y 1, eq_ix2 y⟩
  have ey : ((cfg1.win 7).blk t).view.emb (ix2 p q) = (ix2 p ⟨512 * t.val + q.val, col1_lt t q⟩ : S1536x18944.Idx) := by
    funext a; apply Fin.ext
    match a with
    | ⟨0, _⟩ => show win1_7.index t 0 * 1536 + 1 * p.val = p.val; rw [hi.1]; omega
    | ⟨1, _⟩ => show win1_7.index t 1 * 512 + 1 * q.val = 512 * t.val + q.val; rw [hi.2]; omega
  show (k1_pay3 (iblk1 V c 4 t) (inv V c) : S1536x512.Idx → EReal) (ix2 p q) = codesArr V c (((cfg1.win 7).blk t).view.emb (ix2 p q))
  rw [ey, k1_pay3_apply, iblk1_4_at]
  unfold inv
  rw [inv_apply, iblk1_5_at]
  rfl

theorem cover6_1 (i : S18944x3584.Idx) : ∃ t : Fin cfg1.N, (cfg1.win 6).flush t = true ∧ i ∈ ((cfg1.win 6).blk t).view.set := by
  have h0 : (i 0 : Nat) < 18944 := (i 0).isLt
  have h1 : (i 1 : Nat) < 3584 := (i 1).isLt
  have hN : cfg1.N = 37 := N_1
  refine ⟨⟨(i 0).val / 512, by omega⟩, flush1_6 _, ?_⟩
  generalize ht : (⟨(i 0).val / 512, _⟩ : Fin cfg1.N) = t
  have htv : t.val = (i 0).val / 512 := by rw [← ht]
  clear ht
  have e : win1_6.index t 0 = t.val ∧ win1_6.size 0 = 512 ∧ win1_6.xsize (grid1.coords t) 0 = 512
      ∧ win1_6.index t 1 * win1_6.size 1 = 0 ∧ win1_6.xsize (grid1.coords t) 1 = 3584 := by
    clear htv; revert t; decide +kernel
  show i ∈ ((View.whole main_v7_0).slice (win1_6.rect t)).set
  rw [View.set_slice_whole, Rect.mem_set_unit]
  intro a
  match a with
  | ⟨0, _⟩ =>
    show win1_6.index t 0 * win1_6.size 0 ≤ (i 0 : Nat) ∧ (i 0 : Nat) < win1_6.index t 0 * win1_6.size 0 + win1_6.xsize (grid1.coords t) 0
    rw [e.1, e.2.1, e.2.2.1]; omega
  | ⟨1, _⟩ =>
    show win1_6.index t 1 * win1_6.size 1 ≤ (i 1 : Nat) ∧ (i 1 : Nat) < win1_6.index t 1 * win1_6.size 1 + win1_6.xsize (grid1.coords t) 1
    rw [e.2.2.2.1, e.2.2.2.2]; omega

theorem cover7_1 (i : S1536x18944.Idx) : ∃ t : Fin cfg1.N, (cfg1.win 7).flush t = true ∧ i ∈ ((cfg1.win 7).blk t).view.set := by
  have h0 : (i 0 : Nat) < 1536 := (i 0).isLt
  have h1 : (i 1 : Nat) < 18944 := (i 1).isLt
  have hN : cfg1.N = 37 := N_1
  refine ⟨⟨(i 1).val / 512, by omega⟩, flush1_7 _, ?_⟩
  generalize ht : (⟨(i 1).val / 512, _⟩ : Fin cfg1.N) = t
  have htv : t.val = (i 1).val / 512 := by rw [← ht]
  clear ht
  have e : win1_7.index t 1 = t.val ∧ win1_7.size 1 = 512 ∧ win1_7.xsize (grid1.coords t) 1 = 512
      ∧ win1_7.index t 0 * win1_7.size 0 = 0 ∧ win1_7.xsize (grid1.coords t) 0 = 1536 := by
    clear htv; revert t; decide +kernel
  show i ∈ ((View.whole main_v7_1).slice (win1_7.rect t)).set
  rw [View.set_slice_whole, Rect.mem_set_unit]
  intro a
  match a with
  | ⟨1, _⟩ =>
    show win1_7.index t 1 * win1_7.size 1 ≤ (i 1 : Nat) ∧ (i 1 : Nat) < win1_7.index t 1 * win1_7.size 1 + win1_7.xsize (grid1.coords t) 1
    rw [e.1, e.2.1, e.2.2.1]; omega
  | ⟨0, _⟩ =>
    show win1_7.index t 0 * win1_7.size 0 ≤ (i 0 : Nat) ∧ (i 0 : Nat) < win1_7.index t 0 * win1_7.size 0 + win1_7.xsize (grid1.coords t) 0
    rw [e.2.2.2.1, e.2.2.2.2]; omega

/-- The weight gradient after the call. -/
theorem final_dw2 : (dat1 V c).arrAt 6 cfg1.N = dw2Arr V c :=
  (dat1 V c).arrAt_eq_of_cover 6 (dw2Arr V c) (fun t _ => flushed1_6 V c t) cover6_1

/-- The codes after the call. -/
theorem final_codes : (dat1 V c).arrAt 7 cfg1.N = codesArr V c :=
  (dat1 V c).arrAt_eq_of_cover 7 (codesArr V c) (fun t _ => flushed1_7 V c t) cover7_1

end Cert.KernelIdeal.Whole

end
-- ==== Proof.DxVal.lean ====
module

public import proofs.«01_k».proof.Proof.Dx
public import proofs.«01_k».proof.Proof.Pay

@[expose] public section

set_option maxRecDepth 16384

noncomputable section

/-! The third call's two result arrays, as functions of the arrays it is entered with. -/

namespace Cert.KernelIdeal.Whole

open Idealize.ShloMosaic hiding ix1 ix2 ix3 ix4 eq_ix2
open Idealize.ShloMosaic.TcCoe
open Idealize.ShloMosaic.ValueIdx
open Idealize.ShloMosaic.Pipeline (Dat Cfg Window)
open Cert.KernelIdeal Cert.KernelIdeal.Gen Cert.At

variable (V : (c : Dev nD) → (b : Ref sig .tc) → Buf (Elt Ideal) ((c : Thread nD τ).loc b)) (c : Dev nD)

/-- The arrays of the third call: the codes, -/
abbrev a2_codes : S1536x18944.Idx → EReal := V c main_v7_1
/-- the first weight, -/
abbrev a2_w1 : S3584x18944.Idx → EReal := V c main_arg5
/-- its scales -/
abbrev a2_w1s : S1x3584.Idx → EReal := V c main_v8
/-- and the rows' greatest magnitudes. -/
abbrev a2_amax : S1536x1.Idx → EReal := V c main_v6_1

/-- A point's blocks of the codes and of the first weight. -/
abbrev b2_0 (t : Fin cfg2.N) : S768x18944.Idx → EReal := iblk2 V c 0 t
abbrev b2_1 (t : Fin cfg2.N) : S256x18944.Idx → EReal := iblk2 V c 1 t

theorem row2_lt (t : Fin cfg2.N) (j : Fin 768) : 768 * (t.val / 14) + j.val < 1536 := by
  have := Nat.lt_of_lt_of_eq t.isLt N_2
  omega

theorem col2_lt (t : Fin cfg2.N) (j : Fin 256) : 256 * (t.val % 14) + j.val < 3584 := by omega

theorem iblk2_0_at (t : Fin cfg2.N) (r : Fin 768) (f : Fin 18944) :
    (iblk2 V c 0 t : S768x18944.Idx → EReal) (ix2 r f) = a2_codes V c (ix2 ⟨768 * (t.val / 14) + r.val, row2_lt t r⟩ f) := by
  have hi : win2_0.index t 0 = t.val / 14 ∧ win2_0.index t 1 = 0 := by revert t; decide +kernel
  refine congrArg (a2_codes V c) (funext fun a => Fin.ext ?_)
  match a with
  | ⟨0, _⟩ => show win2_0.index t 0 * 768 + 1 * r.val = 768 * (t.val / 14) + r.val; rw [hi.1]; omega
  | ⟨1, _⟩ => show win2_0.index t 1 * 18944 + 1 * f.val = f.val; rw [hi.2]; omega

theorem iblk2_1_at (t : Fin cfg2.N) (j : Fin 256) (f : Fin 18944) :
    (iblk2 V c 1 t : S256x18944.Idx → EReal) (ix2 j f) = a2_w1 V c (ix2 ⟨256 * (t.val % 14) + j.val, col2_lt t j⟩ f) := by
  have hi : win2_1.index t 0 = t.val % 14 ∧ win2_1.index t 1 = 0 := by revert t; decide +kernel
  refine congrArg (a2_w1 V c) (funext fun a => Fin.ext ?_)
  match a with
  | ⟨0, _⟩ => show win2_1.index t 0 * 256 + 1 * j.val = 256 * (t.val % 14) + j.val; rw [hi.1]; omega
  | ⟨1, _⟩ => show win2_1.index t 1 * 18944 + 1 * f.val = f.val; rw [hi.2]; omega

theorem iblk2_2_at (t : Fin cfg2.N) (j : Fin 256) :
    (iblk2 V c 2 t : S1x256.Idx → EReal) (ix2 (0 : Fin 1) j) = a2_w1s V c (ix2 (0 : Fin 1) ⟨256 * (t.val % 14) + j.val, col2_lt t j⟩) := by
  have hi : win2_2.index t 0 = 0 ∧ win2_2.index t 1 = t.val % 14 := by revert t; decide +kernel
  refine congrArg (a2_w1s V c) (funext fun a => Fin.ext ?_)
  match a with
  | ⟨0, _⟩ => show win2_2.index t 0 * 1 + 1 * 0 = 0; rw [hi.1]
  | ⟨1, _⟩ => show win2_2.index t 1 * 256 + 1 * j.val = 256 * (t.val % 14) + j.val; rw [hi.2]; omega

theorem iblk2_3_at (t : Fin cfg2.N) (r : Fin 768) :
    (iblk2 V c 3 t : S768x1.Idx → EReal) (ix2 r (0 : Fin 1)) = a2_amax V c (ix2 ⟨768 * (t.val / 14) + r.val, row2_lt t r⟩ (0 : Fin 1)) := by
  have hi : win2_3.index t 0 = t.val / 14 ∧ win2_3.index t 1 = 0 := by revert t; decide +kernel
  refine congrArg (a2_amax V c) (funext fun a => Fin.ext ?_)
  match a with
  | ⟨0, _⟩ => show win2_3.index t 0 * 768 + 1 * r.val = 768 * (t.val / 14) + r.val; rw [hi.1]; omega
  | ⟨1, _⟩ => show win2_3.index t 1 * 1 + 1 * 0 = 0; rw [hi.2]

/-- The gradient of the layer's input, element by element. -/
def dxArr : S1536x3584.Idx → EReal := fun i =>
  Spec.dx (fun f => a2_codes V c (ix2 (i 0) f)) (fun f => a2_w1 V c (ix2 (i 1) f)) (Spec.expo (a2_amax V c (ix2 (i 0) (0 : Fin 1))))
    (a2_w1s V c (ix2 (0 : Fin 1) (i 1)))

/-- The rows' scales. -/
def scaleArr : S1536x1.Idx → EReal := fun i => Ideal.exp2 (Spec.expo (a2_amax V c (ix2 (i 0) (0 : Fin 1))))

/-- What point `t` writes back into the input gradient is its block of `dxArr`. -/
theorem flushed2_4 (t : Fin cfg2.N) : (dat2 V c).flushed 4 t = ((cfg2.win 4).blk t).view.read (Elt Ideal) (dxArr V c) := by
  show (cfg2.win 4).cut (grid2.coords t) ((dat2 V c).after 4 t) = _
  rw [after2_4]
  have hi : win2_4.index t 0 = t.val / 14 ∧ win2_4.index t 1 = t.val % 14 := by revert t; decide +kernel
  funext y
  obtain ⟨p, q, rfl⟩ : ∃ (p : Fin 768) (q : Fin 256), y = ix2 p q := ⟨y 0, y 1, eq_ix2 y⟩
  have ey : ((cfg2.win 4).blk t).view.emb (ix2 p q)
      = (ix2 ⟨768 * (t.val / 14) + p.val, row2_lt t p⟩ ⟨256 * (t.val % 14) + q.val, col2_lt t q⟩ : S1536x3584.Idx) := by
    funext a; apply Fin.ext
    match a with
    | ⟨0, _⟩ => show win2_4.index t 0 * 768 + 1 * p.val = 768 * (t.val / 14) + p.val; rw [hi.1]; omega
    | ⟨1, _⟩ => show win2_4.index t 1 * 256 + 1 * q.val = 256 * (t.val % 14) + q.val; rw [hi.2]; omega
  show (k2_pay1 (k2_pay3 (iblk2 V c 3 t) (iblk2 V c 0 t) (iblk2 V c 1 t)) (iblk2 V c 2 t) : S768x256.Idx → EReal) (ix2 p q)
    = dxArr V c (((cfg2.win 4).blk t).view.emb (ix2 p q))
  have hs : ∀ f ∈ (Finset.univ : Finset (Fin 18944)), b2_0 V c t (ix2 p f) * b2_1 V c t (ix2 q f)
      = a2_codes V c (ix2 ⟨768 * (t.val / 14) + p.val, row2_lt t p⟩ f) * a2_w1 V c (ix2 ⟨256 * (t.val % 14) + q.val, col2_lt t q⟩ f) :=
    fun f _ => congrArg₂ (· * ·) (iblk2_0_at V c t p f) (iblk2_1_at V c t q f)
  have e1 : (k2_pay3 (F := Ideal) (iblk2 V c 3 t) (b2_0 V c t) (b2_1 V c t)) (ix2 p q)
      = (∑ f : Fin 18944, a2_codes V c (ix2 ⟨768 * (t.val / 14) + p.val, row2_lt t p⟩ f) * a2_w1 V c (ix2 ⟨256 * (t.val % 14) + q.val, col2_lt t q⟩ f))
        * Ideal.exp2 (Spec.expo (a2_amax V c (ix2 ⟨768 * (t.val / 14) + p.val, row2_lt t p⟩ (0 : Fin 1)))) := by
    rw [k2_pay3_apply, Finset.sum_congr rfl hs, iblk2_3_at]
  rw [ey, k2_pay1_apply, iblk2_2_at]
  exact congrArg (fun z : EReal => z * a2_w1s V c (ix2 (0 : Fin 1) ⟨256 * (t.val % 14) + q.val, col2_lt t q⟩)) e1

/-- What a row block's last point writes back into the scales is its block of `scaleArr`. -/
theorem flushed2_5 (t : Fin cfg2.N) : (dat2 V c).flushed 5 t = ((cfg2.win 5).blk t).view.read (Elt Ideal) (scaleArr V c) := by
  show (cfg2.win 5).cut (grid2.coords t) ((dat2 V c).after 5 t) = _
  rw [after2_5]
  have hi : win2_5.index t 0 = t.val / 14 ∧ win2_5.index t 1 = 0 := by revert t; decide +kernel
  funext y
  obtain ⟨p, q, rfl⟩ : ∃ (p : Fin 768) (q : Fin 1), y = ix2 p q := ⟨y 0, y 1, eq_ix2 y⟩
  obtain rfl : q = 0 := Subsingleton.elim _ _
  have ey : ((cfg2.win 5).blk t).view.emb (ix2 p (0 : Fin 1)) = (ix2 ⟨768 * (t.val / 14) + p.val, row2_lt t p⟩ (0 : Fin 1) : S1536x1.Idx) := by
    funext a; apply Fin.ext
    match a with
    | ⟨0, _⟩ => show win2_5.index t 0 * 768 + 1 * p.val = 768 * (t.val / 14) + p.val; rw [hi.1]; omega
    | ⟨1, _⟩ => show win2_5.index t 1 * 1 + 1 * 0 = 0; rw [hi.2]
  show (k2_pay2 (iblk2 V c 3 t) : S768x1.Idx → EReal) (ix2 p (0 : Fin 1)) = scaleArr V c (((cfg2.win 5).blk t).view.emb (ix2 p (0 : Fin 1)))
  rw [ey, k2_pay2_apply, iblk2_3_at]
  rfl

theorem cover4_2 (i : S1536x3584.Idx) : ∃ t : Fin cfg2.N, (cfg2.win 4).flush t = true ∧ i ∈ ((cfg2.win 4).blk t).view.set := by
  have h0 : (i 0 : Nat) < 1536 := (i 0).isLt
  have h1 : (i 1 : Nat) < 3584 := (i 1).isLt
  have hN : cfg2.N = 28 := N_2
  refine ⟨⟨(i 0).val / 768 * 14 + (i 1).val / 256, by omega⟩, flush2_4 _, ?_⟩
  generalize ht : (⟨(i 0).val / 768 * 14 + (i 1).val / 256, _⟩ : Fin cfg2.N) = t
  have htv : t.val = (i 0).val / 768 * 14 + (i 1).val / 256 := by rw [← ht]
  clear ht
  have e : win2_4.index t 0 = t.val / 14 ∧ win2_4.size 0 = 768 ∧ win2_4.xsize (grid2.coords t) 0 = 768
      ∧ win2_4.index t 1 = t.val % 14 ∧ win2_4.size 1 = 256 ∧ win2_4.xsize (grid2.coords t) 1 = 256 := by
    clear htv; revert t; decide +kernel
  show i ∈ ((View.whole main_v9_0).slice (win2_4.rect t)).set
  rw [View.set_slice_whole, Rect.mem_set_unit]
  intro a
  match a with
  | ⟨0, _⟩ =>
    show win2_4.index t 0 * win2_4.size 0 ≤ (i 0 : Nat) ∧ (i 0 : Nat) < win2_4.index t 0 * win2_4.size 0 + win2_4.xsize (grid2.coords t) 0
    rw [e.1, e.2.1, e.2.2.1]; omega
  | ⟨1, _⟩ =>
    show win2_4.index t 1 * win2_4.size 1 ≤ (i 1 : Nat) ∧ (i 1 : Nat) < win2_4.index t 1 * win2_4.size 1 + win2_4.xsize (grid2.coords t) 1
    rw [e.2.2.2.1, e.2.2.2.2.1, e.2.2.2.2.2]; omega

theorem cover5_2 (i : S1536x1.Idx) : ∃ t : Fin cfg2.N, (cfg2.win 5).flush t = true ∧ i ∈ ((cfg2.win 5).blk t).view.set := by
  have h0 : (i 0 : Nat) < 1536 := (i 0).isLt
  have h1 : (i 1 : Nat) < 1 := (i 1).isLt
  have hN : cfg2.N = 28 := N_2
  refine ⟨⟨(i 0).val / 768 * 14 + 13, by omega⟩, (flush2_5 _).mpr (by show ((i 0).val / 768 * 14 + 13) % 14 = 13; omega), ?_⟩
  generalize ht : (⟨(i 0).val / 768 * 14 + 13, _⟩ : Fin cfg2.N) = t
  have htv : t.val = (i 0).val / 768 * 14 + 13 := by rw [← ht]
  clear ht
  have e : win2_5.index t 0 = t.val / 14 ∧ win2_5.size 0 = 768 ∧ win2_5.xsize (grid2.coords t) 0 = 768
      ∧ win2_5.index t 1 * win2_5.size 1 = 0 ∧ win2_5.xsize (grid2.coords t) 1 = 1 := by
    clear htv; revert t; decide +kernel
  show i ∈ ((View.whole main_v9_1).slice (win2_5.rect t)).set
  rw [View.set_slice_whole, Rect.mem_set_unit]
  intro a
  match a with
  | ⟨0, _⟩ =>
    show win2_5.index t 0 * win2_5.size 0 ≤ (i 0 : Nat) ∧ (i 0 : Nat) < win2_5.index t 0 * win2_5.size 0 + win2_5.xsize (grid2.coords t) 0
    rw [e.1, e.2.1, e.2.2.1]; omega
  | ⟨1, _⟩ =>
    show win2_5.index t 1 * win2_5.size 1 ≤ (i 1 : Nat) ∧ (i 1 : Nat) < win2_5.index t 1 * win2_5.size 1 + win2_5.xsize (grid2.coords t) 1
    rw [e.2.2.2.1, e.2.2.2.2]; omega

/-- The input gradient after the call. -/
theorem final_dx : (dat2 V c).arrAt 4 cfg2.N = dxArr V c :=
  (dat2 V c).arrAt_eq_of_cover 4 (dxArr V c) (fun t _ => flushed2_4 V c t) cover4_2

/-- The scales after the call. -/
theorem final_scale : (dat2 V c).arrAt 5 cfg2.N = scaleArr V c :=
  (dat2 V c).arrAt_eq_of_cover 5 (scaleArr V c) (fun t _ => flushed2_5 V c t) cover5_2

end Cert.KernelIdeal.Whole

end
-- ==== Proof.KerHost.lean ====
module

public import proofs.«01_k».proof.Proof.Run
public import proofs.«01_k».proof.Proof.DhVal
public import proofs.«01_k».proof.Proof.DwVal
public import proofs.«01_k».proof.Proof.DxVal

@[expose] public section

set_option maxRecDepth 16384

noncomputable section

/-! The arrays that the kernel's three calls are entered with, as functions of the program's arguments and of the earlier
    calls' results. -/

namespace Cert.KernelIdeal.Whole

open Idealize.ShloMosaic hiding ix1 ix2 ix3 ix4 eq_ix2
open Idealize.ShloMosaic.TcCoe
open Idealize.ShloMosaic.ValueIdx
open Cert.KernelIdeal Cert.KernelIdeal.Gen Cert.At

variable (m : (ℓ : Loc nD τ sig) → Buf (Elt Ideal) ℓ) (c : Dev nD)

/-! ## The first call -/

theorem a0_dy_eq : a0_dy (V1 m) c = shapeCast S1536x3584 (m ((c : Thread nD τ).loc main_arg0) : S6x256x3584.Idx → EReal) shapeCasts_S6x256x3584_S1536x3584 := by
  unfold a0_dy V1 W1 hostOps0
  after_results_simp
  rfl

theorem a0_dys_eq : a0_dys (V1 m) c = shapeCast S1536x1 (m ((c : Thread nD τ).loc main_arg1) : S6x256.Idx → EReal) shapeCasts_S6x256_S1536x1 := by
  unfold a0_dys V1 W1 hostOps0
  after_results_simp
  rfl

theorem a0_mask_eq : a0_mask (V1 m) c = shapeCast S1536x2368 (m ((c : Thread nD τ).loc main_arg4) : S6x256x2368.Idx → BitVec 8) shapeCasts_S6x256x2368_S1536x2368 := by
  unfold a0_mask V1 W1 hostOps0
  after_results_simp
  rfl

theorem a0_w2_eq : a0_w2 (V1 m) c = (m ((c : Thread nD τ).loc main_arg7) : S18944x3584.Idx → EReal) := W1_args m c main_arg7 (by decide)

theorem a0_w2s_eq : a0_w2s (V1 m) c = shapeCast S1x3584 (m ((c : Thread nD τ).loc main_arg8) : S3584.Idx → EReal) shapeCasts_S3584_S1x3584 := by
  unfold a0_w2s V1 W1 hostOps0
  after_results_simp
  rfl

/-- The mask byte of a row and a group of eight feature columns. -/
theorem a0_mask_apply (r : Fin 1536) (b : Fin 2368) :
    a0_mask (V1 m) c (ix2 r b)
      = (m ((c : Thread nD τ).loc main_arg4) : S6x256x2368.Idx → BitVec 8) (ix3 (⟨r.val / 256, by omega⟩ : Fin 6) (⟨r.val % 256, by omega⟩ : Fin 256) b) := by
  rw [a0_mask_eq]
  exact shapeCast_apply _ _ (ix2 r b) (ix3 (⟨r.val / 256, by omega⟩ : Fin 6) (⟨r.val % 256, by omega⟩ : Fin 256) b) (by
    rw [Shape.rowMajor_val_two, Shape.rowMajor_val_three]
    show (r.val / 256 * 256 + r.val % 256) * 2368 + b.val = r.val * 2368 + b.val
    omega)

/-! ## The second call -/

theorem a1_dy_eq : a1_dy (V2 m) c = a0_dy (V1 m) c := W2_of m c main_v0 (by decide)
theorem a1_dys_eq : a1_dys (V2 m) c = a0_dys (V1 m) c := W2_of m c main_v1 (by decide)
theorem a1_h_eq : a1_h (V2 m) c = shapeCast S1536x18944 (m ((c : Thread nD τ).loc main_arg2) : S6x256x18944.Idx → EReal) shapeCasts_S6x256x18944_S1536x18944 := by
  refine (W2_of m c main_v2 (by decide)).trans ?_
  unfold W1 hostOps0
  after_results_simp
  rfl
theorem a1_hs_eq : a1_hs (V2 m) c = shapeCast S1x1536 (m ((c : Thread nD τ).loc main_arg3) : S6x256.Idx → EReal) shapeCasts_S6x256_S1x1536 := by
  refine (W2_of m c main_v3 (by decide)).trans ?_
  unfold W1 hostOps0
  after_results_simp
  rfl
theorem a1_dh_eq : a1_dh (V2 m) c = dhArr (V1 m) c := (W2_main_v6_0 m c).trans (final_dh (V1 m) c)
theorem a1_amax_eq : a1_amax (V2 m) c = amaxArr (V1 m) c := (W2_main_v6_1 m c).trans (final_amax (V1 m) c)

/-- The scale of a row of the layer's inputs. -/
theorem a1_hs_apply (t : Fin 1536) :
    a1_hs (V2 m) c (ix2 (0 : Fin 1) t)
      = (m ((c : Thread nD τ).loc main_arg3) : S6x256.Idx → EReal) (ix2 (⟨t.val / 256, by omega⟩ : Fin 6) (⟨t.val % 256, by omega⟩ : Fin 256)) := by
  rw [a1_hs_eq]
  exact shapeCast_apply _ _ (ix2 (0 : Fin 1) t) (ix2 (⟨t.val / 256, by omega⟩ : Fin 6) (⟨t.val % 256, by omega⟩ : Fin 256)) (by
    rw [Shape.rowMajor_val_two, Shape.rowMajor_val_two]
    show t.val / 256 * 256 + t.val % 256 = 0 * 1536 + t.val
    omega)

/-! ## The third call -/

theorem a2_codes_eq : a2_codes (V4 m) c = codesArr (V2 m) c := (W4_main_v7_1 m c).trans (final_codes (V2 m) c)
theorem a2_amax_eq : a2_amax (V4 m) c = amaxArr (V1 m) c := (W4_main_v6_1 m c).trans (final_amax (V1 m) c)
theorem a2_w1_eq : a2_w1 (V4 m) c = (m ((c : Thread nD τ).loc main_arg5) : S3584x18944.Idx → EReal) := W4_args m c main_arg5 (by decide)
theorem a2_w1s_eq : a2_w1s (V4 m) c = shapeCast S1x3584 (m ((c : Thread nD τ).loc main_arg6) : S3584.Idx → EReal) shapeCasts_S3584_S1x3584 := by
  have e : W4 m c (Proc.devRef .tc main_v8) = shapeCast S1x3584 (W3 m c (Proc.devRef .tc main_arg6) : S3584.Idx → EReal) shapeCasts_S3584_S1x3584 := by
    unfold W4 hostOps2
    after_results_simp
    rfl
  exact e.trans (congrArg (fun z : S3584.Idx → EReal => shapeCast S1x3584 z shapeCasts_S3584_S1x3584) (W3_args m c main_arg6 (by decide)))

/-! ## The four results -/

/-- The codes. -/
theorem codes_at (r : Fin 1536) (f : Fin 18944) :
    codesArr (V2 m) c (ix2 r f) = Spec.code (dhArr (V1 m) c (ix2 r f)) (Spec.expo (amaxArr (V1 m) c (ix2 r (0 : Fin 1)))) := by
  show Spec.code (a1_dh (V2 m) c (ix2 r f)) (Spec.expo (a1_amax (V2 m) c (ix2 r (0 : Fin 1)))) = _
  rw [a1_dh_eq, a1_amax_eq]

/-- The scales. -/
theorem scale_at (r : Fin 1536) : scaleArr (V4 m) c (ix2 r (0 : Fin 1)) = Ideal.exp2 (Spec.expo (amaxArr (V1 m) c (ix2 r (0 : Fin 1)))) := by
  show Ideal.exp2 (Spec.expo (a2_amax (V4 m) c (ix2 r (0 : Fin 1)))) = _
  rw [a2_amax_eq]

/-- The gradient of the layer's input. -/
theorem dx_at (r : Fin 1536) (d : Fin 3584) :
    dxArr (V4 m) c (ix2 r d) = Spec.dx (fun f => codesArr (V2 m) c (ix2 r f)) (fun f => a2_w1 (V4 m) c (ix2 d f))
      (Spec.expo (amaxArr (V1 m) c (ix2 r (0 : Fin 1)))) (a2_w1s (V4 m) c (ix2 (0 : Fin 1) d)) := by
  show Spec.dx (fun f => a2_codes (V4 m) c (ix2 r f)) (fun f => a2_w1 (V4 m) c (ix2 d f)) (Spec.expo (a2_amax (V4 m) c (ix2 r (0 : Fin 1))))
    (a2_w1s (V4 m) c (ix2 (0 : Fin 1) d)) = _
  rw [a2_codes_eq, a2_amax_eq]

/-- The gradient of the second weight. -/
theorem dw2_at (f : Fin 18944) (d : Fin 3584) :
    dw2Arr (V2 m) c (ix2 f d) = Spec.dw2 (fun t => a1_h (V2 m) c (ix2 t f)) (fun t => a1_hs (V2 m) c (ix2 (0 : Fin 1) t))
      (fun t => a0_dy (V1 m) c (ix2 t d)) (fun t => a0_dys (V1 m) c (ix2 t (0 : Fin 1))) := by
  show Spec.dw2 (fun t => a1_h (V2 m) c (ix2 t f)) (fun t => a1_hs (V2 m) c (ix2 (0 : Fin 1) t)) (fun t => a1_dy (V2 m) c (ix2 t d))
    (fun t => a1_dys (V2 m) c (ix2 t (0 : Fin 1))) = _
  rw [a1_dy_eq, a1_dys_eq]

end Cert.KernelIdeal.Whole

end
-- ==== Proof.RefPay.lean ====
module

public import proofs.«01_k».proof.Proof.At
public import proofs.«01_k».proof.Proof.Spec
public import proofs.«01_k».proof.Proof.Gen.ReferenceIdeal.Skeleton

@[expose] public section

noncomputable section

/-! What the reference's body computes, read at an index over the extended reals. -/

namespace Cert.ReferenceIdeal.Plain

open Idealize.ShloMosaic hiding ix1 ix2 ix3 ix4
open Idealize.ShloMosaic.ValueIdx
open Cert.ReferenceIdeal Cert.ReferenceIdeal.Gen Cert.At

/-- The masked gradient, from a mask of words. -/
theorem k0_pay2_apply (w2 : Vec Ideal S18944x3584 .fp8e4m3) (w2s : Vec Ideal S1x3584 .f32) (dy : Vec Ideal S1536x3584 .fp8e5m2)
    (mask : Vec Ideal S1536x18944 .i32) (dys : Vec Ideal S1536x1 .f32) (r : Fin 1536) (f : Fin 18944) :
    k0_pay2 (F := Ideal) w2 w2s dy mask dys (ix2 r f)
      = Spec.masked ((mask (ix2 r f) : BitVec 32) != 0#32)
          (Spec.prod (fun d => dy (ix2 r d)) (fun d => w2 (ix2 f d)) (fun d => w2s (ix2 (0 : Fin 1) d))) (dys (ix2 r (0 : Fin 1))) := by
  have hm : matmul dot_S1536x3584_S18944x3584_S1536x18944_1_1_0_0_n_n none (extf (F := Ideal) .bf16 dy bitsLt_fp8e5m2_bf16)
      (mulf (extf (F := Ideal) .bf16 w2 bitsLt_fp8e4m3_bf16) (broadcastTo S18944x3584 (truncf (F := Ideal) .bf16 w2s bitsLt_bf16_f32) broadcasts_S1x3584_S18944x3584))
      (constant (F := Ideal) S1536x18944 .f32 0x00000000#32) (ix2 r f)
      = Spec.prod (fun d => dy (ix2 r d)) (fun d => w2 (ix2 f d)) (fun d => w2s (ix2 (0 : Fin 1) d)) := by
    refine (Ideal.matmul_transposedRhs_apply (M := 1536) (K := 3584) (N := 18944) none _ _ _ r f).trans ?_
    rw [constant_apply, Ideal.ofBits_zero_f32, zero_add]
    refine Finset.sum_congr rfl fun d _ => ?_
    rw [mulf_apply, extf_apply]
    exact congrArg (fun z => dy (ix2 r d) * (w2 (ix2 f d) * z)) (broadcastTo_1b_ab_apply _ _ f d)
  have hs : broadcastTo S1536x18944 dys broadcasts_S1536x1_S1536x18944 (ix2 r f) = dys (ix2 r (0 : Fin 1)) := col_apply dys _ r f
  unfold k0_pay2
  rw [shapeCast_id, shapeCast_id, shapeCast_id, shapeCast_id]
  rw [select_apply, mulf_apply, hm, hs]
  show Scalar.select (BitVec.ofBool ((mask (ix2 r f) : BitVec 32) != 0#32)) _ _ = _
  unfold Spec.masked
  cases ((mask (ix2 r f) : BitVec 32) != 0#32)
  · exact Ideal.ofBits_zero_f32
  · rfl

/-- The greatest magnitudes of the rows, as a column. -/
def amaxCol (v : FVec Ideal S1536x18944 .f32) : FVec Ideal S1536x1 .f32 :=
  shapeCast S1536x1 (multiReduction .maximumf [1] S1536 (absf v) 0xFF800000#32 reduces_S1536x18944_S1536 (.inl rfl) rfl) shapeCasts_S1536_S1536x1

theorem amaxCol_apply (v : FVec Ideal S1536x18944 .f32) (r : Fin 1536) : amaxCol v (ix2 r (0 : Fin 1)) = Spec.amax fun f => v (ix2 r f) := by
  unfold amaxCol
  exact (shapeCast_a_a1_apply _ _ r 0).trans (rowMax_apply (absf v) _ _ _ _ r)

/-- The exponents of a column of magnitudes. -/
def expoCol (a : FVec Ideal S1536x1 .f32) : FVec Ideal S1536x1 .f32 :=
  select (andi (cmpf .oge (mulf a (broadcast S1536x1 (Scalar.ofBits .f32 0x37924925#32))) (broadcast S1536x1 (Scalar.ofBits .f32 0x00800000#32)))
      (cmpf .olt (mulf a (broadcast S1536x1 (Scalar.ofBits .f32 0x37924925#32))) (broadcast S1536x1 (Scalar.ofBits .f32 0x7E800000#32))))
    (addf (floor (divf (log (mulf a (broadcast S1536x1 (Scalar.ofBits .f32 0x37924925#32)))) (log (broadcast S1536x1 (Scalar.ofBits .f32 0x40000000#32)))))
      (broadcast S1536x1 (Scalar.ofBits .f32 0x3F800000#32)))
    (broadcast S1536x1 (Scalar.ofBits .f32 0x00000000#32))

theorem expoCol_apply (a : FVec Ideal S1536x1 .f32) (i : S1536x1.Idx) : expoCol a i = Spec.expo (a i) := rfl

theorem k0_pay3_eq (w2 : Vec Ideal S18944x3584 .fp8e4m3) (w2s : Vec Ideal S1x3584 .f32) (dy : Vec Ideal S1536x3584 .fp8e5m2)
    (mask : Vec Ideal S1536x18944 .i32) (dys : Vec Ideal S1536x1 .f32) :
    k0_pay3 (F := Ideal) w2 w2s dy mask dys = expoCol (amaxCol (k0_pay2 (F := Ideal) w2 w2s dy mask dys)) := rfl

/-- The exponent of a row's scale. -/
theorem k0_pay3_apply (w2 : Vec Ideal S18944x3584 .fp8e4m3) (w2s : Vec Ideal S1x3584 .f32) (dy : Vec Ideal S1536x3584 .fp8e5m2)
    (mask : Vec Ideal S1536x18944 .i32) (dys : Vec Ideal S1536x1 .f32) (r : Fin 1536) :
    k0_pay3 (F := Ideal) w2 w2s dy mask dys (ix2 r (0 : Fin 1))
      = Spec.expo (Spec.amax fun f => k0_pay2 (F := Ideal) w2 w2s dy mask dys (ix2 r f)) := by
  rw [k0_pay3_eq, expoCol_apply, amaxCol_apply]

theorem k0_pay4_apply (dh : FVec Ideal S1536x18944 .f32) (e : FVec Ideal S1536x1 .f32) (r : Fin 1536) (f : Fin 18944) :
    k0_pay4 (F := Ideal) dh e (ix2 r f) = Spec.code (dh (ix2 r f)) (e (ix2 r (0 : Fin 1))) := by
  unfold k0_pay4
  rw [truncf_apply, minimumf_apply, maximumf_apply, mulf_apply]
  refine (congrArg (fun z => min _ (max _ (dh (ix2 r f) * z))) (col_apply _ _ r f)).trans ?_
  unfold Spec.code
  refine congrArg (fun z => min _ (max _ (dh (ix2 r f) * z))) ?_
  show Ideal.exp2 (Ideal.ofBits .f32 0x00000000#32 - e (ix2 r (0 : Fin 1))) = _
  rw [Ideal.ofBits_zero_f32]

theorem k0_pay5_apply (e : FVec Ideal S1536x1 .f32) (i : S1536x1.Idx) : k0_pay5 (F := Ideal) e i = Ideal.exp2 (e i) := rfl

theorem k0_pay6_apply (dh : FVec Ideal S1536x18944 .f32) (e : FVec Ideal S1536x1 .f32) (w1 : Vec Ideal S3584x18944 .fp8e4m3) (w1s : Vec Ideal S1x3584 .f32)
    (r : Fin 1536) (c : Fin 3584) :
    k0_pay6 (F := Ideal) dh e w1 w1s (ix2 r c)
      = Spec.dx (fun f => k0_pay4 (F := Ideal) dh e (ix2 r f)) (fun f => w1 (ix2 c f)) (e (ix2 r (0 : Fin 1))) (w1s (ix2 (0 : Fin 1) c)) := by
  have hm : matmul dot_S1536x18944_S3584x18944_S1536x3584_1_1_0_0_n_n none (extf (F := Ideal) .bf16 (k0_pay4 (F := Ideal) dh e) bitsLt_fp8e5m2_bf16)
      (extf (F := Ideal) .bf16 w1 bitsLt_fp8e4m3_bf16) (constant (F := Ideal) S1536x3584 .f32 0x00000000#32) (ix2 r c)
      = ∑ f : Fin 18944, k0_pay4 (F := Ideal) dh e (ix2 r f) * w1 (ix2 c f) := by
    refine (Ideal.matmul_transposedRhs_apply (M := 1536) (K := 18944) (N := 3584) none _ _ _ r c).trans ?_
    rw [constant_apply, Ideal.ofBits_zero_f32, zero_add]
    rfl
  have hs : broadcastTo S1536x3584 (k0_pay5 (F := Ideal) e) broadcasts_S1536x1_S1536x3584 (ix2 r c) = Ideal.exp2 (e (ix2 r (0 : Fin 1))) :=
    col_apply _ _ r c
  have hw : broadcastTo S1536x3584 w1s broadcasts_S1x3584_S1536x3584 (ix2 r c) = w1s (ix2 (0 : Fin 1) c) := broadcastTo_1b_ab_apply _ _ r c
  unfold k0_pay6
  rw [shapeCast_id, truncf_apply, mulf_apply, mulf_apply, hm, hs, hw]
  rfl

theorem k0_pay7_apply (h : Vec Ideal S1536x18944 .fp8e4m3) (hs : Vec Ideal S1536x1 .f32) (r : Fin 1536) (f : Fin 18944) :
    k0_pay7 (F := Ideal) h hs (ix2 r f) = h (ix2 r f) * hs (ix2 r (0 : Fin 1)) := by
  unfold k0_pay7
  rw [shapeCast_id, shapeCast_id, mulf_apply, extf_apply]
  exact congrArg (h (ix2 r f) * ·) (col_apply _ _ r f)

theorem k0_pay8_apply (dy : Vec Ideal S1536x3584 .fp8e5m2) (i : S1536x3584.Idx) : k0_pay8 (F := Ideal) dy i = dy i := by
  unfold k0_pay8
  rw [shapeCast_id]
  rfl

/-- The gradient of the second weight. -/
theorem k0_pay1_apply (h : Vec Ideal S1536x18944 .fp8e4m3) (hs : Vec Ideal S1536x1 .f32) (dy : Vec Ideal S1536x3584 .fp8e5m2) (dys : Vec Ideal S1536x1 .f32)
    (f : Fin 18944) (d : Fin 3584) :
    k0_pay1 (F := Ideal) (k0_pay7 (F := Ideal) h hs) (k0_pay8 (F := Ideal) dy) dys (ix2 f d)
      = Spec.dw2 (fun t => h (ix2 t f)) (fun t => hs (ix2 t (0 : Fin 1))) (fun t => dy (ix2 t d)) (fun t => dys (ix2 t (0 : Fin 1))) := by
  unfold k0_pay1
  rw [shapeCast_id]
  refine (tn_apply (M := 18944) (K := 1536) (N := 3584) none _ _ _ f d).trans ?_
  rw [constant_apply, Ideal.ofBits_zero_f32, zero_add]
  refine Finset.sum_congr rfl fun t _ => ?_
  have hd : broadcastTo S1536x3584 (truncf (F := Ideal) .bf16 dys bitsLt_bf16_f32) broadcasts_S1536x1_S1536x3584 (ix2 t d) = dys (ix2 t (0 : Fin 1)) :=
    col_apply _ _ t d
  rw [mulf_apply, hd, k0_pay7_apply, k0_pay8_apply]

end Cert.ReferenceIdeal.Plain

end
-- ==== Proof.RefVal.lean ====
module

public import proofs.«01_k».proof.Proof.RefPay
public import proofs.«01_k».proof.Proof.Gen.ReferenceIdeal.Frame
public import Idealize.ShloMosaic.Lib.Pipeline.ValueKit

@[expose] public section

set_option maxRecDepth 16384

noncomputable section

/-! The reference's four result arrays, as functions of the arrays its one call is entered with. -/

namespace Cert.ReferenceIdeal.Plain

open Idealize.ShloMosaic hiding ix1 ix2 ix3 ix4 eq_ix2
open Idealize.ShloMosaic.TcCoe
open Idealize.ShloMosaic.ValueIdx
open Idealize.ShloMosaic.Pipeline (Dat Cfg Window)
open Cert.ReferenceIdeal Cert.ReferenceIdeal.Gen Cert.At

variable (m : (ℓ : Loc nD τ sig) → Buf (Elt Ideal) ℓ) (c : Dev nD)

/-- The one point. -/
def p0 : Fin cfg0.N := ⟨0, by decide +kernel⟩

theorem hz : (![0, 0] : Fin 2 → Nat) = fun _ => 0 := funext fun a => by fin_cases a <;> rfl

theorem ld_w2 (x : Vec Ideal S18944x3584 .fp8e4m3) : View.ld x r0_0 = x := View.ld_unit_zero (off := ![0, 0]) hz _ x
theorem ld_row (x : Vec Ideal S1x3584 .f32) : View.ld x r0_1 = x := View.ld_unit_zero (off := ![0, 0]) hz _ x
theorem ld_dy (x : Vec Ideal S1536x3584 .fp8e5m2) : View.ld x r0_2 = x := View.ld_unit_zero (off := ![0, 0]) hz _ x
theorem ld_mask (x : Vec Ideal S1536x18944 .i32) : View.ld x r0_3 = x := View.ld_unit_zero (off := ![0, 0]) hz _ x
theorem ld_h (x : Vec Ideal S1536x18944 .fp8e4m3) : View.ld x r0_3 = x := View.ld_unit_zero (off := ![0, 0]) hz _ x
theorem ld_col (x : Vec Ideal S1536x1 .f32) : View.ld x r0_4 = x := View.ld_unit_zero (off := ![0, 0]) hz _ x
theorem ld_w1 (x : Vec Ideal S3584x18944 .fp8e4m3) : View.ld x r0_5 = x := View.ld_unit_zero (off := ![0, 0]) hz _ x

/-- The array of operand 0, as the call finds it. -/
def x_dy : Vec Ideal S1536x3584 .fp8e5m2 := V m c main_v10
/-- The array of operand 1, as the call finds it. -/
def x_dys : Vec Ideal S1536x1 .f32 := V m c main_v11
/-- The array of operand 2, as the call finds it. -/
def x_h : Vec Ideal S1536x18944 .fp8e4m3 := V m c main_v12
/-- The array of operand 3, as the call finds it. -/
def x_hs : Vec Ideal S1536x1 .f32 := V m c main_v13
/-- The array of operand 4, as the call finds it. -/
def x_mask : Vec Ideal S1536x18944 .i32 := V m c main_v14
/-- The array of operand 5, as the call finds it. -/
def x_w1 : Vec Ideal S3584x18944 .fp8e4m3 := V m c main_arg5
/-- The array of operand 6, as the call finds it. -/
def x_w1s : Vec Ideal S1x3584 .f32 := V m c main_v15
/-- The array of operand 7, as the call finds it. -/
def x_w2 : Vec Ideal S18944x3584 .fp8e4m3 := V m c main_arg7
/-- The array of operand 8, as the call finds it. -/
def x_w2s : Vec Ideal S1x3584 .f32 := V m c main_v16

theorem iblk_dy : iblk m c 0 p0 = x_dy m c := by
  have hi : win0_0.index p0 0 = 0 ∧ win0_0.index p0 1 = 0 := by decide +kernel
  funext y
  unfold x_dy
  refine congrArg (V m c main_v10) (funext fun a => Fin.ext ?_)
  match a with
  | ⟨0, _⟩ => show win0_0.index p0 0 * _ + 1 * (y 0).val = (y 0).val; rw [hi.1]; omega
  | ⟨1, _⟩ => show win0_0.index p0 1 * _ + 1 * (y 1).val = (y 1).val; rw [hi.2]; omega
theorem iblk_dys : iblk m c 1 p0 = x_dys m c := by
  have hi : win0_1.index p0 0 = 0 ∧ win0_1.index p0 1 = 0 := by decide +kernel
  funext y
  unfold x_dys
  refine congrArg (V m c main_v11) (funext fun a => Fin.ext ?_)
  match a with
  | ⟨0, _⟩ => show win0_1.index p0 0 * _ + 1 * (y 0).val = (y 0).val; rw [hi.1]; omega
  | ⟨1, _⟩ => show win0_1.index p0 1 * _ + 1 * (y 1).val = (y 1).val; rw [hi.2]; omega
theorem iblk_h : iblk m c 2 p0 = x_h m c := by
  have hi : win0_2.index p0 0 = 0 ∧ win0_2.index p0 1 = 0 := by decide +kernel
  funext y
  unfold x_h
  refine congrArg (V m c main_v12) (funext fun a => Fin.ext ?_)
  match a with
  | ⟨0, _⟩ => show win0_2.index p0 0 * _ + 1 * (y 0).val = (y 0).val; rw [hi.1]; omega
  | ⟨1, _⟩ => show win0_2.index p0 1 * _ + 1 * (y 1).val = (y 1).val; rw [hi.2]; omega
theorem iblk_hs : iblk m c 3 p0 = x_hs m c := by
  have hi : win0_3.index p0 0 = 0 ∧ win0_3.index p0 1 = 0 := by decide +kernel
  funext y
  unfold x_hs
  refine congrArg (V m c main_v13) (funext fun a => Fin.ext ?_)
  match a with
  | ⟨0, _⟩ => show win0_3.index p0 0 * _ + 1 * (y 0).val = (y 0).val; rw [hi.1]; omega
  | ⟨1, _⟩ => show win0_3.index p0 1 * _ + 1 * (y 1).val = (y 1).val; rw [hi.2]; omega
theorem iblk_mask : iblk m c 4 p0 = x_mask m c := by
  have hi : win0_4.index p0 0 = 0 ∧ win0_4.index p0 1 = 0 := by decide +kernel
  funext y
  unfold x_mask
  refine congrArg (V m c main_v14) (funext fun a => Fin.ext ?_)
  match a with
  | ⟨0, _⟩ => show win0_4.index p0 0 * _ + 1 * (y 0).val = (y 0).val; rw [hi.1]; omega
  | ⟨1, _⟩ => show win0_4.index p0 1 * _ + 1 * (y 1).val = (y 1).val; rw [hi.2]; omega
theorem iblk_w1 : iblk m c 5 p0 = x_w1 m c := by
  have hi : win0_5.index p0 0 = 0 ∧ win0_5.index p0 1 = 0 := by decide +kernel
  funext y
  unfold x_w1
  refine congrArg (V m c main_arg5) (funext fun a => Fin.ext ?_)
  match a with
  | ⟨0, _⟩ => show win0_5.index p0 0 * _ + 1 * (y 0).val = (y 0).val; rw [hi.1]; omega
  | ⟨1, _⟩ => show win0_5.index p0 1 * _ + 1 * (y 1).val = (y 1).val; rw [hi.2]; omega
theorem iblk_w1s : iblk m c 6 p0 = x_w1s m c := by
  have hi : win0_6.index p0 0 = 0 ∧ win0_6.index p0 1 = 0 := by decide +kernel
  funext y
  unfold x_w1s
  refine congrArg (V m c main_v15) (funext fun a => Fin.ext ?_)
  match a with
  | ⟨0, _⟩ => show win0_6.index p0 0 * _ + 1 * (y 0).val = (y 0).val; rw [hi.1]; omega
  | ⟨1, _⟩ => show win0_6.index p0 1 * _ + 1 * (y 1).val = (y 1).val; rw [hi.2]; omega
theorem iblk_w2 : iblk m c 7 p0 = x_w2 m c := by
  have hi : win0_7.index p0 0 = 0 ∧ win0_7.index p0 1 = 0 := by decide +kernel
  funext y
  unfold x_w2
  refine congrArg (V m c main_arg7) (funext fun a => Fin.ext ?_)
  match a with
  | ⟨0, _⟩ => show win0_7.index p0 0 * _ + 1 * (y 0).val = (y 0).val; rw [hi.1]; omega
  | ⟨1, _⟩ => show win0_7.index p0 1 * _ + 1 * (y 1).val = (y 1).val; rw [hi.2]; omega
theorem iblk_w2s : iblk m c 8 p0 = x_w2s m c := by
  have hi : win0_8.index p0 0 = 0 ∧ win0_8.index p0 1 = 0 := by decide +kernel
  funext y
  unfold x_w2s
  refine congrArg (V m c main_v16) (funext fun a => Fin.ext ?_)
  match a with
  | ⟨0, _⟩ => show win0_8.index p0 0 * _ + 1 * (y 0).val = (y 0).val; rw [hi.1]; omega
  | ⟨1, _⟩ => show win0_8.index p0 1 * _ + 1 * (y 1).val = (y 1).val; rw [hi.2]; omega

/-- The masked gradient that the body computes. -/
def dhR : FVec Ideal S1536x18944 .f32 := k0_pay2 (x_w2 m c) (x_w2s m c) (x_dy m c) (x_mask m c) (x_dys m c)
/-- The exponents of its rows. -/
def expoR : FVec Ideal S1536x1 .f32 := k0_pay3 (x_w2 m c) (x_w2s m c) (x_dy m c) (x_mask m c) (x_dys m c)

/-- The gradient of the input. -/
def dxR : FVec Ideal S1536x3584 .bf16 := k0_pay6 (dhR m c) (expoR m c) (x_w1 m c) (x_w1s m c)

theorem out_dx : out0_9 (F := Ideal) (x_dy m c) (x_dys m c) (x_h m c) (x_hs m c) (x_mask m c) (x_w1 m c) (x_w1s m c) (x_w2 m c) (x_w2s m c) = dxR m c := by
  unfold out0_9 k0_pay9 k0_pay10 dxR dhR expoR
  rw [View.canon_unit_zero hz, ld_w2, ld_row, ld_dy, ld_mask, ld_col, ld_w1, ld_row]

theorem after_dx : (dats m 0 c).after 9 p0 = dxR m c := by
  rw [after0_9, iblk_dy, iblk_dys, iblk_h, iblk_hs, iblk_mask, iblk_w1, iblk_w1s, iblk_w2, iblk_w2s]
  exact out_dx m c

/-- The gradient of the second weight. -/
def dw2R : FVec Ideal S18944x3584 .f32 := k0_pay1 (k0_pay7 (x_h m c) (x_hs m c)) (k0_pay8 (x_dy m c)) (x_dys m c)

theorem out_dw2 : out0_10 (F := Ideal) (x_dy m c) (x_dys m c) (x_h m c) (x_hs m c) (x_mask m c) (x_w1 m c) (x_w1s m c) (x_w2 m c) (x_w2s m c) = dw2R m c := by
  unfold out0_10 dw2R
  rw [View.canon_unit_zero hz, ld_h, ld_col, ld_dy, ld_col]

theorem after_dw2 : (dats m 0 c).after 10 p0 = dw2R m c := by
  rw [after0_10, iblk_dy, iblk_dys, iblk_h, iblk_hs, iblk_mask, iblk_w1, iblk_w1s, iblk_w2, iblk_w2s]
  exact out_dw2 m c

/-- The codes. -/
def codesR : FVec Ideal S1536x18944 .fp8e5m2 := k0_pay4 (dhR m c) (expoR m c)

theorem out_codes : out0_11 (F := Ideal) (x_dy m c) (x_dys m c) (x_h m c) (x_hs m c) (x_mask m c) (x_w1 m c) (x_w1s m c) (x_w2 m c) (x_w2s m c) = codesR m c := by
  unfold out0_11 k0_pay9 k0_pay10 codesR dhR expoR
  rw [View.canon_unit_zero hz, ld_w2, ld_row, ld_dy, ld_mask, ld_col]

theorem after_codes : (dats m 0 c).after 11 p0 = codesR m c := by
  rw [after0_11, iblk_dy, iblk_dys, iblk_h, iblk_hs, iblk_mask, iblk_w1, iblk_w1s, iblk_w2, iblk_w2s]
  exact out_codes m c

/-- The scales. -/
def scaleR : FVec Ideal S1536x1 .f32 := k0_pay5 (expoR m c)

theorem out_scale : out0_12 (F := Ideal) (x_dy m c) (x_dys m c) (x_h m c) (x_hs m c) (x_mask m c) (x_w1 m c) (x_w1s m c) (x_w2 m c) (x_w2s m c) = scaleR m c := by
  unfold out0_12 k0_pay10 scaleR expoR
  rw [View.canon_unit_zero hz, ld_w2, ld_row, ld_dy, ld_mask, ld_col]

theorem after_scale : (dats m 0 c).after 12 p0 = scaleR m c := by
  rw [after0_12, iblk_dy, iblk_dys, iblk_h, iblk_hs, iblk_mask, iblk_w1, iblk_w1s, iblk_w2, iblk_w2s]
  exact out_scale m c

/-! ## The results at an index -/

theorem dhR_apply (r : Fin 1536) (f : Fin 18944) :
    dhR m c (ix2 r f) = Spec.masked ((x_mask m c (ix2 r f) : BitVec 32) != 0#32)
      (Spec.prod (fun d => x_dy m c (ix2 r d)) (fun d => x_w2 m c (ix2 f d)) (fun d => x_w2s m c (ix2 (0 : Fin 1) d))) (x_dys m c (ix2 r (0 : Fin 1))) :=
  k0_pay2_apply _ _ _ _ _ r f

theorem expoR_apply (r : Fin 1536) : expoR m c (ix2 r (0 : Fin 1)) = Spec.expo (Spec.amax fun f => dhR m c (ix2 r f)) :=
  k0_pay3_apply _ _ _ _ _ r

theorem codesR_apply (r : Fin 1536) (f : Fin 18944) : codesR m c (ix2 r f) = Spec.code (dhR m c (ix2 r f)) (expoR m c (ix2 r (0 : Fin 1))) :=
  k0_pay4_apply _ _ r f

theorem scaleR_apply (r : Fin 1536) : scaleR m c (ix2 r (0 : Fin 1)) = Ideal.exp2 (expoR m c (ix2 r (0 : Fin 1))) := k0_pay5_apply _ _

theorem dxR_apply (r : Fin 1536) (d : Fin 3584) :
    dxR m c (ix2 r d) = Spec.dx (fun f => codesR m c (ix2 r f)) (fun f => x_w1 m c (ix2 d f)) (expoR m c (ix2 r (0 : Fin 1))) (x_w1s m c (ix2 (0 : Fin 1) d)) :=
  k0_pay6_apply _ _ _ _ r d

theorem dw2R_apply (f : Fin 18944) (d : Fin 3584) :
    dw2R m c (ix2 f d) = Spec.dw2 (fun t => x_h m c (ix2 t f)) (fun t => x_hs m c (ix2 t (0 : Fin 1))) (fun t => x_dy m c (ix2 t d))
      (fun t => x_dys m c (ix2 t (0 : Fin 1))) :=
  k0_pay1_apply _ _ _ _ f d

/-! ## The arrays after the call -/

attribute [local irreducible] dxR dw2R codesR scaleR

theorem final_dx : (dats m 0 c).arrAt 9 cfg0.N = dxR m c :=
  (dats m 0 c).arrAt_eq_of_after_last 9 p0 (by decide +kernel) (dxR m c) fun j => congrFun (after_dx m c) j

theorem final_dw2 : (dats m 0 c).arrAt 10 cfg0.N = dw2R m c :=
  (dats m 0 c).arrAt_eq_of_after_last 10 p0 (by decide +kernel) (dw2R m c) fun j => congrFun (after_dw2 m c) j

theorem final_codes : (dats m 0 c).arrAt 11 cfg0.N = codesR m c :=
  (dats m 0 c).arrAt_eq_of_after_last 11 p0 (by decide +kernel) (codesR m c) fun j => congrFun (after_codes m c) j

theorem final_scale : (dats m 0 c).arrAt 12 cfg0.N = scaleR m c :=
  (dats m 0 c).arrAt_eq_of_after_last 12 p0 (by decide +kernel) (scaleR m c) fun j => congrFun (after_scale m c) j

end Cert.ReferenceIdeal.Plain

end
-- ==== Proof.RefHost.lean ====
module

public import proofs.«01_k».proof.Proof.RefVal
public import Idealize.ShloMosaic.Lib.StableHlo.RunRead

@[expose] public section

set_option maxRecDepth 16384

noncomputable section

/-! The arrays that the reference's call is entered with, as functions of the program's arguments. -/

namespace Cert.ReferenceIdeal.Plain

open Idealize.ShloMosaic hiding ix1 ix2 ix3 ix4 eq_ix2
open Idealize.ShloMosaic.TcCoe
open Idealize.ShloMosaic.ValueIdx
open Cert.ReferenceIdeal Cert.ReferenceIdeal.Gen Cert.At

variable (m : (ℓ : Loc nD τ sig) → Buf (Elt Ideal) ℓ) (c : Dev nD)

theorem x_dy_eq : x_dy m c = shapeCast S1536x3584 (m ((c : Thread nD τ).loc main_arg0) : S6x256x3584.Idx → EReal) shapeCasts_S6x256x3584_S1536x3584 := by
  unfold x_dy V hostOps0
  after_results_simp
  rfl

theorem x_dys_eq : x_dys m c = shapeCast S1536x1 (m ((c : Thread nD τ).loc main_arg1) : S6x256.Idx → EReal) shapeCasts_S6x256_S1536x1 := by
  unfold x_dys V hostOps0
  after_results_simp
  rfl

theorem x_h_eq : x_h m c = shapeCast S1536x18944 (m ((c : Thread nD τ).loc main_arg2) : S6x256x18944.Idx → EReal) shapeCasts_S6x256x18944_S1536x18944 := by
  unfold x_h V hostOps0
  after_results_simp
  rfl

theorem x_hs_eq : x_hs m c = shapeCast S1536x1 (m ((c : Thread nD τ).loc main_arg3) : S6x256.Idx → EReal) shapeCasts_S6x256_S1536x1 := by
  unfold x_hs V hostOps0
  after_results_simp
  rfl

theorem x_w1_eq : x_w1 m c = (m ((c : Thread nD τ).loc main_arg5) : S3584x18944.Idx → EReal) := V_main_arg5 m c
theorem x_w2_eq : x_w2 m c = (m ((c : Thread nD τ).loc main_arg7) : S18944x3584.Idx → EReal) := V_main_arg7 m c

theorem x_w1s_eq : x_w1s m c = shapeCast S1x3584 (m ((c : Thread nD τ).loc main_arg6) : S3584.Idx → EReal) shapeCasts_S3584_S1x3584 := by
  unfold x_w1s V hostOps0
  after_results_simp
  rfl

theorem x_w2s_eq : x_w2s m c = shapeCast S1x3584 (m ((c : Thread nD τ).loc main_arg8) : S3584.Idx → EReal) shapeCasts_S3584_S1x3584 := by
  unfold x_w2s V hostOps0
  after_results_simp
  rfl

/-- The mask's bits as words, from its bytes. -/
def bits (v : S6x256x2368.Idx → BitVec 8) : S6x256x2368x8.Idx → BitVec 32 :=
  andi (Host.shrsi
      (broadcastInDim S6x256x2368x8 ![0, 1, 2, 3] bcast_S6x256x2368x1_S6x256x2368x8_0_1_2_3
        (broadcastInDim S6x256x2368x1 ![0, 1, 2] bcast_S6x256x2368_S6x256x2368x1_0_1_2 (extui 32 v natLt_8_32)))
      (broadcastInDim S6x256x2368x8 ![0, 1, 2, 3] bcast_S1x1x1x8_S6x256x2368x8_0_1_2_3 (broadcastInDim S1x1x1x8 ![3] bcast_S8_S1x1x1x8_3 (iotaInDim S8 32 0))))
    (broadcastInDim S6x256x2368x8 ![] bcast_S_S6x256x2368x8 (constantI S_ 32 1#32))

theorem x_mask_eq : x_mask m c = shapeCast S1536x18944 (shapeCast S6x256x18944 (bits (m ((c : Thread nD τ).loc main_arg4) : S6x256x2368.Idx → BitVec 8))
    shapeCasts_S6x256x2368x8_S6x256x18944) shapeCasts_S6x256x18944_S1536x18944 := by
  unfold x_mask V hostOps0
  after_results_simp
  rfl

theorem word_bit : ∀ (b : BitVec 8) (k : Fin 8),
    ((IntOp.shrsi .host (b.setWidth 32) (BitVec.ofNat 32 k.val) &&& 1#32) != 0#32) = b.getLsbD k.val := by decide +kernel

/-- A bit word of the mask: not zero exactly when the byte's bit is set. -/
theorem bits_apply (v : S6x256x2368.Idx → BitVec 8) (p : Fin 6) (q : Fin 256) (b : Fin 2368) (k : Fin 8) :
    (bits v (ix4 p q b k) != 0#32) = (v (ix3 p q b)).getLsbD k.val := by
  have ev : broadcastInDim S6x256x2368x8 ![0, 1, 2, 3] bcast_S6x256x2368x1_S6x256x2368x8_0_1_2_3
      (broadcastInDim S6x256x2368x1 ![0, 1, 2] bcast_S6x256x2368_S6x256x2368x1_0_1_2 (extui 32 v natLt_8_32)) (ix4 p q b k)
      = (v (ix3 p q b)).setWidth 32 :=
    congrArg (fun i => (v i).setWidth 32) (funext fun a => match a with
      | ⟨0, _⟩ => rfl
      | ⟨1, _⟩ => rfl
      | ⟨2, _⟩ => rfl)
  have ek : broadcastInDim S6x256x2368x8 ![0, 1, 2, 3] bcast_S1x1x1x8_S6x256x2368x8_0_1_2_3
      (broadcastInDim S1x1x1x8 ![3] bcast_S8_S1x1x1x8_3 (iotaInDim S8 32 0)) (ix4 p q b k) = BitVec.ofNat 32 k.val := rfl
  refine Eq.trans ?_ (word_bit (v (ix3 p q b)) k)
  exact congrArg₂ (fun x y : BitVec 32 => (IntOp.shrsi .host x y &&& 1#32) != 0#32) ev ek

theorem split_lt (r : Fin 1536) : r.val / 256 < 6 := by omega

/-- The mask word of a row and a feature column, from the byte that holds its bit. -/
theorem x_mask_apply (r : Fin 1536) (f : Fin 18944) :
    ((x_mask m c (ix2 r f) : BitVec 32) != 0#32)
      = Spec.bit (fun b => (m ((c : Thread nD τ).loc main_arg4) : S6x256x2368.Idx → BitVec 8) (ix3 ⟨r.val / 256, split_lt r⟩ ⟨r.val % 256, by omega⟩ b)) f := by
  rw [x_mask_eq]
  have e1 := shapeCast_apply (shapeCast S6x256x18944 (bits (m ((c : Thread nD τ).loc main_arg4) : S6x256x2368.Idx → BitVec 8))
    shapeCasts_S6x256x2368x8_S6x256x18944) shapeCasts_S6x256x18944_S1536x18944 (ix2 r f)
    (ix3 ⟨r.val / 256, split_lt r⟩ ⟨r.val % 256, by omega⟩ f) (by
      rw [Shape.rowMajor_val_two, Shape.rowMajor_val_three]
      show (r.val / 256 * 256 + r.val % 256) * 18944 + f.val = r.val * 18944 + f.val
      omega)
  have e2 := shapeCast_apply (bits (m ((c : Thread nD τ).loc main_arg4) : S6x256x2368.Idx → BitVec 8)) shapeCasts_S6x256x2368x8_S6x256x18944
    (ix3 ⟨r.val / 256, split_lt r⟩ ⟨r.val % 256, by omega⟩ f)
    (ix4 ⟨r.val / 256, split_lt r⟩ ⟨r.val % 256, by omega⟩ ⟨f.val / 8, by omega⟩ ⟨f.val % 8, by omega⟩) (by
      rw [Shape.rowMajor_val_three, Shape.rowMajor_val_four]
      show ((r.val / 256 * 256 + r.val % 256) * 2368 + f.val / 8) * 8 + f.val % 8 = (r.val / 256 * 256 + r.val % 256) * 18944 + f.val
      omega)
  rw [e1, e2, bits_apply]
  rfl

end Cert.ReferenceIdeal.Plain

end
-- ==== Proof.Link.lean ====
module

public import proofs.«01_k».proof.Proof.KerHost
public import proofs.«01_k».proof.Proof.RefHost
public import proofs.«01_k».proof.Defs

@[expose] public section

set_option maxRecDepth 16384

noncomputable section

/-! The kernel and the reference, started from equal arguments, end with equal results. -/

namespace Cert.Link

open Idealize.ShloMosaic hiding ix1 ix2 ix3 ix4 eq_ix2
open Idealize.ShloMosaic.TcCoe Idealize.SL.Sem
open Idealize.ShloMosaic.ValueIdx
open Cert.At Cert.KernelIdeal.Whole Cert.ReferenceIdeal.Plain

/-- The reference's arguments are the kernel's. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The arrays the calls are entered with -/

/-- The gradients. -/
theorem dy (h : Same m m' c) : x_dy m' c = a0_dy (V1 m) c := by
  obtain ⟨h0, h1, h2, h3, h4, h5, h6, h7, h8⟩ := h
  exact (Cert.ReferenceIdeal.Plain.x_dy_eq m' c).trans ((congrArg (fun z : Cert.KernelIdeal.S6x256x3584.Idx → EReal => shapeCast Cert.KernelIdeal.S1536x3584 z Cert.KernelIdeal.Gen.shapeCasts_S6x256x3584_S1536x3584) h0).trans (Cert.KernelIdeal.Whole.a0_dy_eq m c).symm)

/-- Their scales. -/
theorem dys (h : Same m m' c) : x_dys m' c = a0_dys (V1 m) c := by
  obtain ⟨h0, h1, h2, h3, h4, h5, h6, h7, h8⟩ := h
  exact (Cert.ReferenceIdeal.Plain.x_dys_eq m' c).trans ((congrArg (fun z : Cert.KernelIdeal.S6x256.Idx → EReal => shapeCast Cert.KernelIdeal.S1536x1 z Cert.KernelIdeal.Gen.shapeCasts_S6x256_S1536x1) h1).trans (Cert.KernelIdeal.Whole.a0_dys_eq m c).symm)

/-- The layer's hidden values. -/
theorem h (h : Same m m' c) : x_h m' c = a1_h (V2 m) c := by
  obtain ⟨h0, h1, h2, h3, h4, h5, h6, h7, h8⟩ := h
  exact (Cert.ReferenceIdeal.Plain.x_h_eq m' c).trans ((congrArg (fun z : Cert.KernelIdeal.S6x256x18944.Idx → EReal => shapeCast Cert.KernelIdeal.S1536x18944 z Cert.KernelIdeal.Gen.shapeCasts_S6x256x18944_S1536x18944) h2).trans (Cert.KernelIdeal.Whole.a1_h_eq m c).symm)

/-- The scales of the second weight. -/
theorem w2s (h : Same m m' c) : x_w2s m' c = a0_w2s (V1 m) c := by
  obtain ⟨h0, h1, h2, h3, h4, h5, h6, h7, h8⟩ := h
  exact (Cert.ReferenceIdeal.Plain.x_w2s_eq m' c).trans ((congrArg (fun z : Cert.KernelIdeal.S3584.Idx → EReal => shapeCast Cert.KernelIdeal.S1x3584 z Cert.KernelIdeal.Gen.shapeCasts_S3584_S1x3584) h8).trans (Cert.KernelIdeal.Whole.a0_w2s_eq m c).symm)

/-- The scales of the first weight. -/
theorem w1s (h : Same m m' c) : x_w1s m' c = a2_w1s (V4 m) c := by
  obtain ⟨h0, h1, h2, h3, h4, h5, h6, h7, h8⟩ := h
  exact (Cert.ReferenceIdeal.Plain.x_w1s_eq m' c).trans ((congrArg (fun z : Cert.KernelIdeal.S3584.Idx → EReal => shapeCast Cert.KernelIdeal.S1x3584 z Cert.KernelIdeal.Gen.shapeCasts_S3584_S1x3584) h6).trans (Cert.KernelIdeal.Whole.a2_w1s_eq m c).symm)

/-- The second weight. -/
theorem w2 (h : Same m m' c) : x_w2 m' c = a0_w2 (V1 m) c := by
  obtain ⟨h0, h1, h2, h3, h4, h5, h6, h7, h8⟩ := h
  exact (Cert.ReferenceIdeal.Plain.x_w2_eq m' c).trans (Eq.trans h7 (Cert.KernelIdeal.Whole.a0_w2_eq m c).symm)

/-- The first weight. -/
theorem w1 (h : Same m m' c) : x_w1 m' c = a2_w1 (V4 m) c := by
  obtain ⟨h0, h1, h2, h3, h4, h5, h6, h7, h8⟩ := h
  exact (Cert.ReferenceIdeal.Plain.x_w1_eq m' c).trans (Eq.trans h5 (Cert.KernelIdeal.Whole.a2_w1_eq m c).symm)

/-- The scale of a row of hidden values: a column of the reference's array, a row of the kernel's. -/
theorem hs (h : Same m m' c) (t : Fin 1536) : x_hs m' c (ix2 t (0 : Fin 1)) = a1_hs (V2 m) c (ix2 (0 : Fin 1) t) := by
  obtain ⟨h0, h1, h2, h3, h4, h5, h6, h7, h8⟩ := h
  rw [a1_hs_apply, x_hs_eq]
  refine (shapeCast_apply _ _ (ix2 t (0 : Fin 1)) (ix2 (⟨t.val / 256, by omega⟩ : Fin 6) (⟨t.val % 256, by omega⟩ : Fin 256)) (by
    rw [Shape.rowMajor_val_two, Shape.rowMajor_val_two]
    show t.val / 256 * 256 + t.val % 256 = t.val * 1 + 0
    omega)).trans ?_
  exact congrFun h3 _

/-- The mask of a row and a feature column: a word of the reference's array, a bit of the kernel's. -/
theorem mask (h : Same m m' c) (r : Fin 1536) (f : Fin 18944) :
    ((x_mask m' c (ix2 r f) : BitVec 32) != 0#32) = Spec.bit (fun b => a0_mask (V1 m) c (ix2 r b)) f := by
  obtain ⟨h0, h1, h2, h3, h4, h5, h6, h7, h8⟩ := h
  rw [x_mask_apply]
  refine congrArg (fun z => Spec.bit z f) (funext fun b => ?_)
  exact (congrFun h4 _).trans (a0_mask_apply m c r b).symm

/-! ## The results -/

/-- The masked gradient of the hidden values. -/
theorem dh_eq (h : Same m m' c) (r : Fin 1536) (f : Fin 18944) : dhR m' c (ix2 r f) = dhArr (V1 m) c (ix2 r f) := by
  rw [dhR_apply, mask m m' c h, dy m m' c h, dys m m' c h, w2 m m' c h, w2s m m' c h]
  rfl

/-- The exponents of its rows. -/
theorem expo_eq (h : Same m m' c) (r : Fin 1536) : expoR m' c (ix2 r (0 : Fin 1)) = Spec.expo (amaxArr (V1 m) c (ix2 r (0 : Fin 1))) := by
  rw [expoR_apply]
  exact congrArg (fun z => Spec.expo (Spec.amax z)) (funext fun f => dh_eq m m' c h r f)

theorem codes_at_eq (h : Same m m' c) (r : Fin 1536) (f : Fin 18944) : codesR m' c (ix2 r f) = codesArr (V2 m) c (ix2 r f) := by
  rw [codesR_apply, codes_at, dh_eq m m' c h, expo_eq m m' c h]

/-- The codes of the masked gradient. -/
theorem codes_eq (h : Same m m' c) : codesR m' c = codesArr (V2 m) c := by
  funext i
  obtain ⟨p, q, rfl⟩ : ∃ p q, i = ix2 p q := ⟨_, _, eq_ix2 i⟩
  exact codes_at_eq m m' c h p q

/-- Their scales. -/
theorem scale_eq (h : Same m m' c) : scaleR m' c = scaleArr (V4 m) c := by
  funext i
  obtain ⟨p, q, rfl⟩ : ∃ p q, i = ix2 p q := ⟨_, _, eq_ix2 i⟩
  obtain rfl : q = 0 := Subsingleton.elim _ _
  rw [scaleR_apply, scale_at, expo_eq m m' c h]

/-- The gradient of the layer's input. -/
theorem dx_eq (h : Same m m' c) : dxR m' c = dxArr (V4 m) c := by
  funext i
  obtain ⟨p, q, rfl⟩ : ∃ p q, i = ix2 p q := ⟨_, _, eq_ix2 i⟩
  rw [dxR_apply, dx_at, codes_eq m m' c h, expo_eq m m' c h, w1 m m' c h, w1s m m' c h]

/-- The gradient of the second weight. -/
theorem dw2_eq (h : Same m m' c) : dw2R m' c = dw2Arr (V2 m) c := by
  funext i
  obtain ⟨p, q, rfl⟩ : ∃ p q, i = ix2 p q := ⟨_, _, eq_ix2 i⟩
  rw [dw2R_apply, dw2_at, dy m m' c h, dys m m' c h, Link.h m m' c h]
  exact congrArg (fun z => Spec.dw2 _ z _ _) (funext fun t => hs m m' c h t)

/-! ## The claim -/

/-- From equal arguments the kernel and the reference both run, leave their arguments as they were, and end with the four results equal: the
    gradient of the layer's input, the gradient of the second weight, the codes of the masked gradient and their scales. -/
theorem algebraic : Cert.algebraic_KernelIdeal_ReferenceIdeal (hKernelIdeal := Cert.KernelIdeal.Gen.facts) (hReferenceIdeal := Cert.ReferenceIdeal.Gen.facts) := by
  intro m g m' g' _ hs
  refine ⟨fun c => dxArr (V4 m) c, fun c => dw2Arr (V2 m) c, fun c => codesArr (V2 m) c, fun c => scaleArr (V4 m) c, ?_, ?_⟩
  · refine (θ_run _ _ _).mono ?_ (Cert.KernelIdeal.Whole.run m g)
    intro r hr c
    obtain ⟨⟨e0, e1, e2, e3⟩, ea⟩ := hr.1 c
    exact ⟨e0.trans (Cert.KernelIdeal.Whole.final_dx (V4 m) c), e1.trans (Cert.KernelIdeal.Whole.final_dw2 (V2 m) c),
      e2.trans (Cert.KernelIdeal.Whole.final_codes (V2 m) c), e3.trans (Cert.KernelIdeal.Whole.final_scale (V4 m) c), ea⟩
  · refine (θ_run _ _ _).mono ?_ (θ_run_and (Cert.ReferenceIdeal.Gen.run_main m' g') (Cert.ReferenceIdeal.Gen.unchanged m' g'))
    rintro r ⟨hr, ha⟩ c
    have h : Same m m' c := hs c
    refine ⟨?_, ?_, ?_, ?_, ha c⟩
    · exact ((hr c).1 9).trans ((Cert.ReferenceIdeal.Plain.final_dx m' c).trans (dx_eq m m' c h))
    · exact ((hr c).1 10).trans ((Cert.ReferenceIdeal.Plain.final_dw2 m' c).trans (dw2_eq m m' c h))
    · exact ((hr c).1 11).trans ((Cert.ReferenceIdeal.Plain.final_codes m' c).trans (codes_eq m m' c h))
    · exact ((hr c).1 12).trans ((Cert.ReferenceIdeal.Plain.final_scale m' c).trans (scale_eq m m' c h))

end Cert.Link

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Bits.Run
public import proofs.«01_k».proof.Proof.Link
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  fun m ρ _ => Cert.ReferenceIdeal.Gen.frame m ρ, trivial, Cert.Link.algebraic⟩

end Cert.Proof

end
